-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v19_0)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)) (v4 : (c : Dev Cert.Kernel3Ideal.nD) → Buf (Elt Ideal) ((c.tc : Thread Cert.Kernel3Ideal.nD Cert.Kernel3Ideal.τ).loc Cert.Kernel3Ideal.main_v20_4)) (v5 : (c : Dev Cert.Kernel3Ideal.nD) → Buf (Elt Ideal) ((c.tc : Thread Cert.Kernel3Ideal.nD Cert.Kernel3Ideal.τ).loc Cert.Kernel3Ideal.main_v20_5)) (v6 : (c : Dev Cert.Kernel3Ideal.nD) → Buf (Elt Ideal) ((c.tc : Thread Cert.Kernel3Ideal.nD Cert.Kernel3Ideal.τ).loc Cert.Kernel3Ideal.main_v20_6)) (v7 : (c : Dev Cert.Kernel3Ideal.nD) → Buf (Elt Ideal) ((c.tc : Thread Cert.Kernel3Ideal.nD Cert.Kernel3Ideal.τ).loc Cert.Kernel3Ideal.main_v20_7)) (v8 : (c : Dev Cert.Kernel3Ideal.nD) → Buf (Elt Ideal) ((c.tc : Thread Cert.Kernel3Ideal.nD Cert.Kernel3Ideal.τ).loc Cert.Kernel3Ideal.main_v20_8)) (v9 : (c : Dev Cert.Kernel3Ideal.nD) → Buf (Elt Ideal) ((c.tc : Thread Cert.Kernel3Ideal.nD Cert.Kernel3Ideal.τ).loc Cert.Kernel3Ideal.main_v20_9)) (v10 : (c : Dev Cert.Kernel3Ideal.nD) → Buf (Elt Ideal) ((c.tc : Thread Cert.Kernel3Ideal.nD Cert.Kernel3Ideal.τ).loc Cert.Kernel3Ideal.main_v20_10)) (v11 : (c : Dev Cert.Kernel3Ideal.nD) → Buf (Elt Ideal) ((c.tc : Thread Cert.Kernel3Ideal.nD Cert.Kernel3Ideal.τ).loc Cert.Kernel3Ideal.main_v20_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_v20_4) = v4 c
          ∧ r.2.mem ((c.tc : Thread Cert.Kernel3Ideal.nD Cert.Kernel3Ideal.τ).loc Cert.Kernel3Ideal.main_v20_5) = v5 c
          ∧ r.2.mem ((c.tc : Thread Cert.Kernel3Ideal.nD Cert.Kernel3Ideal.τ).loc Cert.Kernel3Ideal.main_v20_6) = v6 c
          ∧ r.2.mem ((c.tc : Thread Cert.Kernel3Ideal.nD Cert.Kernel3Ideal.τ).loc Cert.Kernel3Ideal.main_v20_7) = v7 c
          ∧ r.2.mem ((c.tc : Thread Cert.Kernel3Ideal.nD Cert.Kernel3Ideal.τ).loc Cert.Kernel3Ideal.main_v20_8) = v8 c
          ∧ r.2.mem ((c.tc : Thread Cert.Kernel3Ideal.nD Cert.Kernel3Ideal.τ).loc Cert.Kernel3Ideal.main_v20_9) = v9 c
          ∧ r.2.mem ((c.tc : Thread Cert.Kernel3Ideal.nD Cert.Kernel3Ideal.τ).loc Cert.Kernel3Ideal.main_v20_10) = v10 c
          ∧ r.2.mem ((c.tc : Thread Cert.Kernel3Ideal.nD Cert.Kernel3Ideal.τ).loc Cert.Kernel3Ideal.main_v20_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v75) = v1 c
          ∧ r.2.mem ((c.tc : Thread Cert.Reference3Ideal.nD Cert.Reference3Ideal.τ).loc Cert.Reference3Ideal.main_v77) = v2 c
          ∧ r.2.mem ((c.tc : Thread Cert.Reference3Ideal.nD Cert.Reference3Ideal.τ).loc Cert.Reference3Ideal.main_v79) = v3 c
          ∧ r.2.mem ((c.tc : Thread Cert.Reference3Ideal.nD Cert.Reference3Ideal.τ).loc Cert.Reference3Ideal.main_v81) = v4 c
          ∧ r.2.mem ((c.tc : Thread Cert.Reference3Ideal.nD Cert.Reference3Ideal.τ).loc Cert.Reference3Ideal.main_v83) = v5 c
          ∧ r.2.mem ((c.tc : Thread Cert.Reference3Ideal.nD Cert.Reference3Ideal.τ).loc Cert.Reference3Ideal.main_v85) = v6 c
          ∧ r.2.mem ((c.tc : Thread Cert.Reference3Ideal.nD Cert.Reference3Ideal.τ).loc Cert.Reference3Ideal.main_v87) = v7 c
          ∧ r.2.mem ((c.tc : Thread Cert.Reference3Ideal.nD Cert.Reference3Ideal.τ).loc Cert.Reference3Ideal.main_v88) = v8 c
          ∧ r.2.mem ((c.tc : Thread Cert.Reference3Ideal.nD Cert.Reference3Ideal.τ).loc Cert.Reference3Ideal.main_v89) = v9 c
          ∧ r.2.mem ((c.tc : Thread Cert.Reference3Ideal.nD Cert.Reference3Ideal.τ).loc Cert.Reference3Ideal.main_v90) = v10 c
          ∧ r.2.mem ((c.tc : Thread Cert.Reference3Ideal.nD Cert.Reference3Ideal.τ).loc Cert.Reference3Ideal.main_v91) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x1024x2816 .f32) (main_arg5 : FVec F S1x2816x1024 .f32) (main_arg6 : FVec F S1x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x1024x2816 .f32 := Host.absf main_arg4
  let main_cst_6 : FVec F S_ .f32 := constant S_ .f32 0x7F800000#32
  let main_v20 : FVec F S1x1024x2816 .f32 := broadcastInDim S1x1024x2816 ![] bcast_S_S1x1024x2816 main_cst_6
  let main_v21 : IVec S1x1024x2816 1 := cmpf .olt main_v19 main_v20
  let main_c_7 : IVec S_ 1 := constantI S_ 1 1#1
  let main_v22 : IVec S_ 1 := (fun x v => Host.reduce IntOp.andi x v reducesTo_S1x1024x2816_S_d0_1_2 h_S_) main_v21 main_c_7
  let main_v23 : IVec S_ 1 := andi main_v18 main_v22
  let main_v24 : FVec F S1x2816x1024 .f32 := Host.absf main_arg5
  let main_cst_8 : FVec F S_ .f32 := constant S_ .f32 0x7F800000#32
  let main_v25 : FVec F S1x2816x1024 .f32 := broadcastInDim S1x2816x1024 ![] bcast_S_S1x2816x1024 main_cst_8
  let main_v26 : IVec S1x2816x1024 1 := cmpf .olt main_v24 main_v25
  let main_c_9 : IVec S_ 1 := constantI S_ 1 1#1
  let main_v27 : IVec S_ 1 := (fun x v => Host.reduce IntOp.andi x v reducesTo_S1x2816x1024_S_d0_1_2 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S4x2048x1024 .f32) (main_arg1 : FVec F S4x2048x1024 .f32) (main_arg2 : FVec F S1x1024 .f32) (main_arg3 : FVec F S1x1024x2816 .f32) (main_arg4 : FVec F S1x1024x2816 .f32) (main_arg5 : FVec F S1x2816x1024 .f32) (main_arg6 : FVec F S1x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_arg6 main_v13 main_v16
-- ==== Kernel.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4x704x1024 : Shape := ⟨3, ![4, 704, 1024]⟩
abbrev S8192x1024 : Shape := ⟨2, ![8192, 1024]⟩
abbrev S1x704x1024 : Shape := ⟨3, ![1, 704, 1024]⟩
abbrev S704x1024 : Shape := ⟨2, ![704, 1024]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S12 : Shape := ⟨1, ![12]⟩
abbrev S1 : Shape := ⟨1, ![1]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩
abbrev S32x8x1024 : Shape := ⟨3, ![32, 8, 1024]⟩
abbrev S1024 : Shape := ⟨1, ![1024]⟩
abbrev S1x1 : Shape := ⟨2, ![1, 1]⟩

abbrev nBuf : Space → Nat
  | .hbm => 50
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S4x704x1024, .bf16⟩
  | .hbm, ⟨16, _⟩ => ⟨S4x704x1024, .bf16⟩
  | .hbm, ⟨17, _⟩ => ⟨S4x704x1024, .bf16⟩
  | .hbm, ⟨18, _⟩ => ⟨S8192x1024, .f32⟩
  | .hbm, ⟨19, _⟩ => ⟨S8192x1024, .f32⟩
  | .hbm, ⟨20, _⟩ => ⟨S1x704x1024, .bf16⟩
  | .hbm, ⟨21, _⟩ => ⟨S704x1024, .bf16⟩
  | .hbm, ⟨22, _⟩ => ⟨S1x704x1024, .bf16⟩
  | .hbm, ⟨23, _⟩ => ⟨S704x1024, .bf16⟩
  | .hbm, ⟨24, _⟩ => ⟨S1x704x1024, .bf16⟩
  | .hbm, ⟨25, _⟩ => ⟨S704x1024, .bf16⟩
  | .hbm, ⟨26, _⟩ => ⟨S8192x1024, .f32⟩
  | .hbm, ⟨27, _⟩ => ⟨S8192x1024, .bf16⟩
  | .hbm, ⟨28, _⟩ => ⟨S8192x1024, .bf16⟩
  | .hbm, ⟨29, _⟩ => ⟨S8192x2816, .bf16⟩
  | .hbm, ⟨30, _⟩ => ⟨S8192x2816, .bf16⟩
  | .hbm, ⟨31, _⟩ => ⟨S8192x2816, .bf16⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S_, .f32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S2816x1024, .bf16⟩
  | .local _ .vmem, ⟨22, _⟩ => ⟨S2816x1024, .bf16⟩
  | .local _ .vmem, ⟨23, _⟩ => ⟨S2816x1024, .bf16⟩
  | .local _ .vmem, ⟨24, _⟩ => ⟨S256x2816, .f32⟩
  | .local _ .vmem, ⟨25, _⟩ => ⟨S256x2816, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev main_v19_5 : Ref sig .tc := ⟨.hbm, 31, rfl⟩
abbrev main_v19_6 : Ref sig .tc := ⟨.hbm, 32, rfl⟩
abbrev main_v19_7 : Ref sig .tc := ⟨.hbm, 33, rfl⟩
abbrev main_v19_8 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x2816 : Shape := ⟨2, ![1024, 2816]⟩
abbrev S4x2048x2816 : Shape := ⟨3, ![4, 2048, 2816]⟩
abbrev S2816x1024 : Shape := ⟨2, ![2816, 1024]⟩
abbrev S1x1 : Shape := ⟨2, ![1, 1]⟩
abbrev S8192x1024 : Shape := ⟨2, ![8192, 1024]⟩

abbrev nBuf : Space → Nat
  | .hbm => 158
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S1x1024, .f32⟩
  | 3 => ⟨S1x1024x2816, .f32⟩
  | 4 => ⟨S1x1024x2816, .f32⟩
  | 5 => ⟨S1x2816x1024, .f32⟩
  | 6 => ⟨S1x1024, .f32⟩
  | 7 => ⟨S1024, .f32⟩
  | 8 => ⟨S4x2048x1024, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048x1, .f32⟩
  | 17 => ⟨S4x2048x1, .f32⟩
  | 18 => ⟨S4x2048x1, .f32⟩
  | 19 => ⟨S4x2048x1, .f32⟩
  | 20 => ⟨S_, .f32⟩
  | 21 => ⟨S4x2048x1, .f32⟩
  | 22 => ⟨S4x2048x1, .f32⟩
  | 23 => ⟨S4x2048x1024, .f32⟩
  | 24 => ⟨S4x2048x1024, .f32⟩
  | 25 => ⟨S1x1x1024, .f32⟩
  | 26 => ⟨S4x2048x1024, .f32⟩
  | 27 => ⟨S4x2048x1024, .f32⟩
  | 28 => ⟨S1024x2816, .f32⟩
  | 29 => ⟨S4x2048x2816, .f32⟩
  | 30 => ⟨S4x2048x2816, .f32⟩
  | 31 => ⟨S4x2048x2816, .f32⟩
  | 32 => ⟨S_, .f32⟩
  | 33 => ⟨S4x2048x2816, .f32⟩
  | 34 => ⟨S4x2048x2816, .f32⟩
  | 35 => ⟨S_, .f32⟩
  | 36 => ⟨S4x2048x2816, .f32⟩
  | 37 => ⟨S4x2048x2816, .f32⟩
  | 38 => ⟨S_, .f32⟩
  | 39 => ⟨S4x2048x2816, .f32⟩
  | 40 => ⟨S4x2048x2816, .f32⟩
  | 41 => ⟨S4x2048x2816, .f32⟩
  | 42 => ⟨S4x2048x2816, .f32⟩
  | 43 => ⟨S1024x2816, .f32⟩
  | 44 => ⟨S4x2048x2816, .f32⟩
  | 45 => ⟨S4x2048x2816, .f32⟩
  | 46 => ⟨S2816x1024, .f32⟩
  | 47 => ⟨S4x2048x1024, .f32⟩
  | 48 => ⟨S1024, .f32⟩
  | 49 => ⟨S4x2048x1024, .f32⟩
  | 50 => ⟨S_, .f32⟩
  | 51 => ⟨S4x2048, .f32⟩
  | 52 => ⟨S4x2048x1, .f32⟩
  | 53 => ⟨S_, .f32⟩
  | 54 => ⟨S4x2048x1, .f32⟩
  | 55 => ⟨S4x2048x1, .f32⟩
  | 56 => ⟨S_, .f32⟩
  | 57 => ⟨S4x2048x1, .f32⟩
  | 58 => ⟨S4x2048x1, .f32⟩
  | 59 => ⟨S4x2048x1, .f32⟩
  | 60 => ⟨S4x2048x1, .f32⟩
  | 61 => ⟨S_, .f32⟩
  | 62 => ⟨S4x2048x1, .f32⟩
  | 63 => ⟨S4x2048x1, .f32⟩
  | 64 => ⟨S4x2048x1024, .f32⟩
  | 65 => ⟨S4x2048x1024, .f32⟩
  | 66 => ⟨S1x1x1024, .f32⟩
  | 67 => ⟨S4x2048x1024, .f32⟩
  | 68 => ⟨S4x2048x1024, .f32⟩
  | 69 => ⟨S4x2048x1024, .f32⟩
  | 70 => ⟨S4x2048x1024, .f32⟩
  | 71 => ⟨S4x2048x1024, .f32⟩
  | 72 => ⟨S_, .f32⟩
  | 73 => ⟨S4x2048x1024, .f32⟩
  | 74 => ⟨S4x2048x1024, .f32⟩
  | 75 => ⟨S_, .f32⟩
  | 76 => ⟨S4x2048, .f32⟩
  | 77 => ⟨S_, .f32⟩
  | 78 => ⟨S4x2048, .f32⟩
  | 79 => ⟨S4x2048, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S4x2048, .f32⟩
  | 88 => ⟨S_, .f32⟩
  | 89 => ⟨S4x2048, .f32⟩
  | 90 => ⟨S4x2048, .f32⟩
  | 91 => ⟨S4x2048x1024, .f32⟩
  | 92 => ⟨S4x2048x1024, .f32⟩
  | 93 => ⟨S4x2048x1024, .f32⟩
  | 94 => ⟨S_, .f32⟩
  | 95 => ⟨S1024, .f32⟩
  | 96 => ⟨S1x1x1024, .f32⟩
  | 97 => ⟨S4x2048x1024, .f32⟩
  | 98 => ⟨S4x2048x1024, .f32⟩
  | 99 => ⟨S_, .f32⟩
  | 100 => ⟨S1024, .f32⟩
  | 101 => ⟨S4x2048x1024, .f32⟩
  | 102 => ⟨S_, .f32⟩
  | 103 => ⟨S4x2048, .f32⟩
  | 104 => ⟨S4x2048x1, .f32⟩
  | 105 => ⟨S4x2048x1024, .f32⟩
  | 106 => ⟨S4x2048x1024, .f32⟩
  | 107 => ⟨S4x2048x1, .f32⟩
  | 108 => ⟨S_, .f32⟩
  | 109 => ⟨S4x2048x1, .f32⟩
  | 110 => ⟨S4x2048x1, .f32⟩
  | 111 => ⟨S_, .f32⟩
  | 112 => ⟨S4x2048, .f32⟩
  | 113 => ⟨S4x2048x1024, .f32⟩
  | 114 => ⟨S4x2048x1024, .f32⟩
  | 115 => ⟨S4x2048x1024, .f32⟩
  | 116 => ⟨S4x2048x1024, .f32⟩
  | 117 => ⟨S4x2048x1024, .f32⟩
  | 118 => ⟨S1x1024, .f32⟩
  | 119 => ⟨S4x2048x2816, .f32⟩
  | 120 => ⟨S4x2048x2816, .f32⟩
  | 121 => ⟨S4x2048x2816, .f32⟩
  | 122 => ⟨S4x2048x1024, .f32⟩
  | 123 => ⟨S4x2048x2816, .f32⟩
  | 124 => ⟨S4x2048x2816, .f32⟩
  | 125 => ⟨S4x2048x2816, .f32⟩
  | 126 => ⟨S4x2048x2816, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S_, .f32⟩
  | 3 => ⟨S1024, .f32⟩
  | 4 => ⟨S1x1x1024, .f32⟩
  | 5 => ⟨S4x2048x1024, .f32⟩
  | 6 => ⟨S4x2048x1024, .f32⟩
  | 7 => ⟨S_, .f32⟩
  | 8 => ⟨S1024, .f32⟩
  | 9 => ⟨S4x2048x1024, .f32⟩
  | 10 => ⟨S_, .f32⟩
  | 11 => ⟨S4x2048, .f32⟩
  | 12 => ⟨S4x2048x1, .f32⟩
  | 13 => ⟨S4x2048x1024, .f32⟩
  | 14 => ⟨S4x2048x1024, .f32⟩
  | 15 => ⟨S4x2048x1024, .f32⟩
  | 16 => ⟨S4x2048x1, .f32⟩
  | 17 => ⟨S_, .f32⟩
  | 18 => ⟨S4x2048x1, .f32⟩
  | 19 => ⟨S4x2048x1, .f32⟩
  | 20 => ⟨S_, .f32⟩
  | 21 => ⟨S4x2048, .f32⟩
  | 22 => ⟨S4x2048x1024, .f32⟩
  | 23 => ⟨S4x2048x1024, .f32⟩
  | 24 => ⟨S4x2048x1024, .f32⟩
  | 25 => ⟨S4x2048x1024, .f32⟩
  | 26 => ⟨S4x2048x1024, .f32⟩
  | 27 => ⟨S1x1024, .f32⟩
  | 28 => ⟨S1x1, .f32⟩
  | 29 => ⟨S8192x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_cst_12 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_15 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_16 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_cst_19 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_20 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_cst_22 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_23 : Ref sig .tc := ⟨.hbm, 145, rfl⟩
abbrev main_v99 : Ref sig .tc := ⟨.hbm, 146, rfl⟩
abbrev main_v100 : Ref sig .tc := ⟨.hbm, 147, rfl⟩
abbrev main_cst_24 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩

abbrev nD : Nat := 1
abbrev τ : Topo := Topo.v7x

variable {F : FTy → Type} [FloatOps F]
-- ==== Kernel2.lean ====
abbrev S4x2048x1024 : Shape := ⟨3, ![4, 2048, 1024]⟩
abbrev S1x1024x2816 : Shape := ⟨3, ![1, 1024, 2816]⟩
abbrev S4x2048x2816 : Shape := ⟨3, ![4, 2048, 2816]⟩
abbrev S1024x2816 : Shape := ⟨2, ![1024, 2816]⟩
abbrev S_ : Shape := ⟨0, ![]⟩
abbrev S8192x2816 : Shape := ⟨2, ![8192, 2816]⟩
abbrev S8192x1024 : Shape := ⟨2, ![8192, 1024]⟩
abbrev S2816x1024 : Shape := ⟨2, ![2816, 1024]⟩
abbrev S1024x1024 : Shape := ⟨2, ![1024, 1024]⟩
abbrev S1024x1408 : Shape := ⟨2, ![1024, 1408]⟩
abbrev S1408x1024 : Shape := ⟨2, ![1408, 1024]⟩

abbrev nBuf : Space → Nat
  | .hbm => 36
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1x1024x2816, .f32⟩
  | .hbm, ⟨2, _⟩ => ⟨S1x1024x2816, .f32⟩
  | .hbm, ⟨3, _⟩ => ⟨S4x2048x2816, .f32⟩
  | .hbm, ⟨4, _⟩ => ⟨S1024x2816, .f32⟩
  | .hbm, ⟨5, _⟩ => ⟨S4x2048x2816, .f32⟩
  | .hbm, ⟨6, _⟩ => ⟨S1024x2816, .f32⟩
  | .hbm, ⟨7, _⟩ => ⟨S4x2048x2816, .f32⟩
  | .hbm, ⟨8, _⟩ => ⟨S4x2048x2816, .f32⟩
  | .hbm, ⟨9, _⟩ => ⟨S4x2048x2816, .f32⟩
  | .hbm, ⟨10, _⟩ => ⟨S_, .f32⟩
  | .hbm, ⟨11, _⟩ => ⟨S4x2048x2816, .f32⟩
  | .hbm, ⟨12, _⟩ => ⟨S4x2048x2816, .f32⟩
  | .hbm, ⟨13, _⟩ => ⟨S_, .f32⟩
  | .hbm, ⟨14, _⟩ => ⟨S4x2048x2816, .f32⟩
  | .hbm, ⟨15, _⟩ => ⟨S4x2048x2816, .f32⟩
  | .hbm, ⟨16, _⟩ => ⟨S_, .f32⟩
  | .hbm, ⟨17, _⟩ => ⟨S4x2048x2816, .f32⟩
  | .hbm, ⟨18, _⟩ => ⟨S4x2048x2816, .f32⟩
  | .hbm, ⟨19, _⟩ => ⟨S4x2048x2816, .f32⟩
  | .hbm, ⟨20, _⟩ => ⟨S4x2048x2816, .f32⟩
  | .hbm, ⟨21, _⟩ => ⟨S4x2048x2816, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S4x2048x2816, .f32⟩
  | .hbm, ⟨27, _⟩ => ⟨S4x2048x2816, .f32⟩
  | .hbm, ⟨28, _⟩ => ⟨S8192x2816, .f32⟩
  | .hbm, ⟨29, _⟩ => ⟨S8192x2816, .bf16⟩
  | .hbm, ⟨30, _⟩ => ⟨S8192x2816, .f32⟩
  | .hbm, ⟨31, _⟩ => ⟨S8192x2816, .bf16⟩
  | .hbm, ⟨32, _⟩ => ⟨S8192x1024, .f32⟩
  | .hbm, ⟨33, _⟩ => ⟨S8192x1024, .bf16⟩
  | .hbm, ⟨34, _⟩ => ⟨S2816x1024, .f32⟩
  | .hbm, ⟨35, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | .local _ .vmem, ⟨9, _⟩ => ⟨S1408x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S4x2048x1024 : Shape := ⟨3, ![4, 2048, 1024]⟩
abbrev S1x1024x2816 : Shape := ⟨3, ![1, 1024, 2816]⟩
abbrev S4x2048x2816 : Shape := ⟨3, ![4, 2048, 2816]⟩
abbrev S1024x2816 : Shape := ⟨2, ![1024, 2816]⟩
abbrev S_ : Shape := ⟨0, ![]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024x2816, .f32⟩
  | .hbm, ⟨2, _⟩ => ⟨S1x1024x2816, .f32⟩
  | .hbm, ⟨3, _⟩ => ⟨S4x2048x2816, .f32⟩
  | .hbm, ⟨4, _⟩ => ⟨S1024x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S_, .f32⟩
  | .hbm, ⟨9, _⟩ => ⟨S4x2048x2816, .f32⟩
  | .hbm, ⟨10, _⟩ => ⟨S4x2048x2816, .f32⟩
  | .hbm, ⟨11, _⟩ => ⟨S_, .f32⟩
  | .hbm, ⟨12, _⟩ => ⟨S4x2048x2816, .f32⟩
  | .hbm, ⟨13, _⟩ => ⟨S4x2048x2816, .f32⟩
  | .hbm, ⟨14, _⟩ => ⟨S_, .f32⟩
  | .hbm, ⟨15, _⟩ => ⟨S4x2048x2816, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S1024x2816, .f32⟩
  | .hbm, ⟨20, _⟩ => ⟨S4x2048x2816, .f32⟩
  | .hbm, ⟨21, _⟩ => ⟨S4x2048x2816, .f32⟩
  | .hbm, ⟨22, _⟩ => ⟨S4x2048x2816, .f32⟩
  | .hbm, ⟨23, _⟩ => ⟨S4x2048x2816, .f32⟩
  | .hbm, ⟨24, _⟩ => ⟨S2816x1024, .f32⟩
  | .hbm, ⟨25, _⟩ => ⟨S1024x2816, .f32⟩
  | .hbm, ⟨26, _⟩ => ⟨S4x2048x1024, .f32⟩
  | .hbm, ⟨27, _⟩ => ⟨S1x1024x2816, .f32⟩
  | .hbm, ⟨28, _⟩ => ⟨S4x2048x2816, .f32⟩
  | .hbm, ⟨29, _⟩ => ⟨S4x2048x2816, .f32⟩
  | .hbm, ⟨30, _⟩ => ⟨S4x2048x2816, .f32⟩
  | .hbm, ⟨31, _⟩ => ⟨S4x2048x2816, .f32⟩
  | .hbm, ⟨32, _⟩ => ⟨S2816x1024, .f32⟩
  | .hbm, ⟨33, _⟩ => ⟨S1024x2816, .f32⟩
  | .hbm, ⟨34, _⟩ => ⟨S4x2048x1024, .f32⟩
  | .hbm, ⟨35, _⟩ => ⟨S4x2048x1024, .f32⟩
  | .hbm, ⟨36, _⟩ => ⟨S1x1024x2816, .f32⟩
  | .hbm, ⟨37, _⟩ => ⟨S1024x2816, .f32⟩
  | .hbm, ⟨38, _⟩ => ⟨S2816x1024, .f32⟩
  | .hbm, ⟨39, _⟩ => ⟨S1024x2816, .f32⟩
  | .hbm, ⟨40, _⟩ => ⟨S2816x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S1x1024x704 : Shape := ⟨3, ![1, 1024, 704]⟩
abbrev S1x704x1024 : Shape := ⟨3, ![1, 704, 1024]⟩
abbrev S1024x704 : Shape := ⟨2, ![1024, 704]⟩
abbrev S704x1024 : Shape := ⟨2, ![704, 1024]⟩
abbrev S176x1024 : Shape := ⟨2, ![176, 1024]⟩

abbrev nBuf : Space → Nat
  | .hbm => 44
  | .vmem => 48
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .hbm, ⟨7, _⟩ => ⟨S1x1024x704, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .hbm, ⟨12, _⟩ => ⟨S1024x704, .f32⟩
  | .hbm, ⟨13, _⟩ => ⟨S704x1024, .f32⟩
  | .hbm, ⟨14, _⟩ => ⟨S1024x704, .f32⟩
  | .hbm, ⟨15, _⟩ => ⟨S704x1024, .f32⟩
  | .hbm, ⟨16, _⟩ => ⟨S1024x704, .f32⟩
  | .hbm, ⟨17, _⟩ => ⟨S704x1024, .f32⟩
  | .hbm, ⟨18, _⟩ => ⟨S1024x704, .f32⟩
  | .hbm, ⟨19, _⟩ => ⟨S704x1024, .f32⟩
  | .hbm, ⟨20, _⟩ => ⟨S1024x704, .f32⟩
  | .hbm, ⟨21, _⟩ => ⟨S704x1024, .f32⟩
  | .hbm, ⟨22, _⟩ => ⟨S1024x704, .f32⟩
  | .hbm, ⟨23, _⟩ => ⟨S704x1024, .f32⟩
  | .hbm, ⟨24, _⟩ => ⟨S1024x704, .f32⟩
  | .hbm, ⟨25, _⟩ => ⟨S704x1024, .f32⟩
  | .hbm, ⟨26, _⟩ => ⟨S1024x704, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | .local _ .vmem, ⟨32, _⟩ => ⟨S176x1024, .f32⟩
  | .local _ .vmem, ⟨33, _⟩ => ⟨S176x1024, .f32⟩
  | .local _ .vmem, ⟨34, _⟩ => ⟨S176x1024, .f32⟩
  | .local _ .vmem, ⟨35, _⟩ => ⟨S176x1024, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | .local _ .vmem, ⟨42, _⟩ => ⟨S176x1024, .f32⟩
  | .local _ .vmem, ⟨43, _⟩ => ⟨S176x1024, .f32⟩
  | .local _ .vmem, ⟨44, _⟩ => ⟨S176x1024, .f32⟩
  | .local _ .vmem, ⟨45, _⟩ => ⟨S176x1024, .f32⟩
  | .local _ .vmem, ⟨46, _⟩ => ⟨S176x1024, .f32⟩
  | .local _ .vmem, ⟨47, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev main_v20_6 : Ref sig .tc := ⟨.hbm, 38, rfl⟩
abbrev main_v20_7 : Ref sig .tc := ⟨.hbm, 39, rfl⟩
abbrev main_v20_8 : Ref sig .tc := ⟨.hbm, 40, rfl⟩
abbrev main_v20_9 : Ref sig .tc := ⟨.hbm, 41, rfl⟩
abbrev main_v20_10 : Ref sig .tc := ⟨.hbm, 42, rfl⟩
abbrev main_v20_11 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S176x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S176x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S176x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference3Ideal.lean ====
abbrev S1x1024x704 : Shape := ⟨3, ![1, 1024, 704]⟩
abbrev S1x704x1024 : Shape := ⟨3, ![1, 704, 1024]⟩
abbrev S_ : Shape := ⟨0, ![]⟩
abbrev S1024x704 : Shape := ⟨2, ![1024, 704]⟩
abbrev S704x1024 : Shape := ⟨2, ![704, 1024]⟩

abbrev nBuf : Space → Nat
  | .hbm => 131
  | .vmem => 0
  | .smem => 0
  | _ => 0

abbrev hbmTy0_0 (i : Nat) : BufTy := match i % 128 with
  | 0 => ⟨S1x1024x704, .f32⟩
  | 1 => ⟨S1x1024x704, .f32⟩
  | 2 => ⟨S1x1024x704, .f32⟩
  | 3 => ⟨S1x1024x704, .f32⟩
  | 4 => ⟨S1x1024x704, .f32⟩
  | 5 => ⟨S1x1024x704, .f32⟩
  | 6 => ⟨S1x1024x704, .f32⟩
  | 7 => ⟨S1x1024x704, .f32⟩
  | 8 => ⟨S1x704x1024, .f32⟩
  | 9 => ⟨S1x704x1024, .f32⟩
  | 10 => ⟨S1x704x1024, .f32⟩
  | 11 => ⟨S1x704x1024, .f32⟩
  | 12 => ⟨S_, .f32⟩
  | 13 => ⟨S1x1024x704, .f32⟩
  | 14 => ⟨S1x1024x704, .f32⟩
  | 15 => ⟨S_, .f32⟩
  | 16 => ⟨S1x1024x704, .f32⟩
  | 17 => ⟨S1x1024x704, .f32⟩
  | 18 => ⟨S1x1024x704, .f32⟩
  | 19 => ⟨S_, .f32⟩
  | 20 => ⟨S1x1024x704, .f32⟩
  | 21 => ⟨S1x1024x704, .f32⟩
  | 22 => ⟨S1x1024x704, .f32⟩
  | 23 => ⟨S_, .f32⟩
  | 24 => ⟨S1x1024x704, .f32⟩
  | 25 => ⟨S1x1024x704, .f32⟩
  | 26 => ⟨S1x1024x704, .f32⟩
  | 27 => ⟨S_, .f32⟩
  | 28 => ⟨S1x1024x704, .f32⟩
  | 29 => ⟨S1x1024x704, .f32⟩
  | 30 => ⟨S_, .f32⟩
  | 31 => ⟨S1x1024x704, .f32⟩
  | 32 => ⟨S1x1024x704, .f32⟩
  | 33 => ⟨S1x1024x704, .f32⟩
  | 34 => ⟨S_, .f32⟩
  | 35 => ⟨S1x1024x704, .f32⟩
  | 36 => ⟨S1x1024x704, .f32⟩
  | 37 => ⟨S1x1024x704, .f32⟩
  | 38 => ⟨S_, .f32⟩
  | 39 => ⟨S1x1024x704, .f32⟩
  | 40 => ⟨S1x1024x704, .f32⟩
  | 41 => ⟨S1x1024x704, .f32⟩
  | 42 => ⟨S_, .f32⟩
  | 43 => ⟨S1x1024x704, .f32⟩
  | 44 => ⟨S1x1024x704, .f32⟩
  | 45 => ⟨S_, .f32⟩
  | 46 => ⟨S1x1024x704, .f32⟩
  | 47 => ⟨S1x1024x704, .f32⟩
  | 48 => ⟨S_, .f32⟩
  | 49 => ⟨S1x1024x704, .f32⟩
  | 50 => ⟨S1x1024x704, .f32⟩
  | 51 => ⟨S1x1024x704, .f32⟩
  | 52 => ⟨S_, .f32⟩
  | 53 => ⟨S1x1024x704, .f32⟩
  | 54 => ⟨S1x1024x704, .f32⟩
  | 55 => ⟨S1x1024x704, .f32⟩
  | 56 => ⟨S_, .f32⟩
  | 57 => ⟨S1x1024x704, .f32⟩
  | 58 => ⟨S1x1024x704, .f32⟩
  | 59 => ⟨S1x1024x704, .f32⟩
  | 60 => ⟨S_, .f32⟩
  | 61 => ⟨S1x1024x704, .f32⟩
  | 62 => ⟨S1x1024x704, .f32⟩
  | 63 => ⟨S_, .f32⟩
  | 64 => ⟨S1x1024x704, .f32⟩
  | 65 => ⟨S1x1024x704, .f32⟩
  | 66 => ⟨S1x1024x704, .f32⟩
  | 67 => ⟨S_, .f32⟩
  | 68 => ⟨S1x1024x704, .f32⟩
  | 69 => ⟨S1x1024x704, .f32⟩
  | 70 => ⟨S1x1024x704, .f32⟩
  | 71 => ⟨S_, .f32⟩
  | 72 => ⟨S1x1024x704, .f32⟩
  | 73 => ⟨S1x1024x704, .f32⟩
  | 74 => ⟨S1x1024x704, .f32⟩
  | 75 => ⟨S_, .f32⟩
  | 76 => ⟨S1x1024x704, .f32⟩
  | 77 => ⟨S1x1024x704, .f32⟩
  | 78 => ⟨S_, .f32⟩
  | 79 => ⟨S1x704x1024, .f32⟩
  | 80 => ⟨S1x704x1024, .f32⟩
  | 81 => ⟨S_, .f32⟩
  | 82 => ⟨S1x704x1024, .f32⟩
  | 83 => ⟨S1x704x1024, .f32⟩
  | 84 => ⟨S1x704x1024, .f32⟩
  | 85 => ⟨S_, .f32⟩
  | 86 => ⟨S1x704x1024, .f32⟩
  | 87 => ⟨S1x704x1024, .f32⟩
  | 88 => ⟨S1x704x1024, .f32⟩
  | 89 => ⟨S_, .f32⟩
  | 90 => ⟨S1x704x1024, .f32⟩
  | 91 => ⟨S1x704x1024, .f32⟩
  | 92 => ⟨S1x704x1024, .f32⟩
  | 93 => ⟨S_, .f32⟩
  | 94 => ⟨S1x704x1024, .f32⟩
  | 95 => ⟨S1x704x1024, .f32⟩
  | 96 => ⟨S_, .f32⟩
  | 97 => ⟨S1x704x1024, .f32⟩
  | 98 => ⟨S1x704x1024, .f32⟩
  | 99 => ⟨S1x704x1024, .f32⟩
  | 100 => ⟨S_, .f32⟩
  | 101 => ⟨S1x704x1024, .f32⟩
  | 102 => ⟨S1x704x1024, .f32⟩
  | 103 => ⟨S1x704x1024, .f32⟩
  | 104 => ⟨S_, .f32⟩
  | 105 => ⟨S1x704x1024, .f32⟩
  | 106 => ⟨S1x704x1024, .f32⟩
  | 107 => ⟨S1x704x1024, .f32⟩
  | 108 => ⟨S_, .f32⟩
  | 109 => ⟨S1x704x1024, .f32⟩
  | 110 => ⟨S1x704x1024, .f32⟩
  | 111 => ⟨S1024x704, .f32⟩
  | 112 => ⟨S704x1024, .f32⟩
  | 113 => ⟨S1024x704, .f32⟩
  | 114 => ⟨S704x1024, .f32⟩
  | 115 => ⟨S1024x704, .f32⟩
  | 116 => ⟨S704x1024, .f32⟩
  | 117 => ⟨S1024x704, .f32⟩
  | 118 => ⟨S704x1024, .f32⟩
  | 119 => ⟨S1024x704, .f32⟩
  | 120 => ⟨S704x1024, .f32⟩
  | 121 => ⟨S1024x704, .f32⟩
  | 122 => ⟨S704x1024, .f32⟩
  | 123 => ⟨S1024x704, .f32⟩
  | 124 => ⟨S704x1024, .f32⟩
  | 125 => ⟨S1024x704, .f32⟩
  | 126 => ⟨S704x1024, .f32⟩
  | 127 => ⟨S704x1024, .f32⟩
  | _ => ⟨S1x1024x704, .f32⟩

abbrev hbmTy0_1 (i : Nat) : BufTy := match i % 128 with
  | 0 => ⟨S704x1024, .f32⟩
  | 1 => ⟨S704x1024, .f32⟩
  | 2 => ⟨S704x1024, .f32⟩
  | _ => ⟨S1x1024x704, .f32⟩

abbrev hbmTy (i : Nat) : BufTy := match i / 128 with
  | 0 => hbmTy0_0 i
  | 1 => hbmTy0_1 i
  | _ => ⟨S1x1024x704, .f32⟩

abbrev bufTy : (tb : Table) → Fin (tcTables nBuf tb) → BufTy
  | .hbm, ⟨i, _⟩ => hbmTy i
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩

abbrev nD : Nat := 1
abbrev τ : Topo := Topo.v7x

variable {F : FTy → Type} [FloatOps F]
-- ==== Proof.Ffn.RunA.lean ====
module

public import proofs.«01_k».proof.Proof.Gen.KernelIdeal.Frame.Runs

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 2400000 in
/-- The body of the call in case A of its branches: the pieces its stores leave in each output and each scratch (last first), with the
    proof that the body, started on whole buffers with its cells at zero, ends with exactly those pieces written. The copies of the
    weight blocks each own only the window they fill, so several may be in flight into one scratch. -/
noncomputable def bodyA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S8x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S2816x1024 .bf16) (harg20 : arg20.IsWhole) (arg21 : Memref sig .tc .vmem S2816x1024 .bf16) (harg21 : arg21.IsWhole) (arg22 : Memref sig .tc .vmem S2816x1024 .bf16) (harg22 : arg22.IsWhole) (arg23 : Memref sig .tc .vmem S256x2816 .f32) (harg23 : arg23.IsWhole) (arg24 : Memref sig .tc .vmem S256x2816 .f32) (harg24 : arg24.IsWhole) (hc0 : cond0_0 i)
    (x0 : Vec F S256x1024 .f32) (x1 : Vec F S256x1024 .f32) (x2 : Vec F S1x1024 .f32) (x3 : Vec F S1x1024 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    Σ' (L4 : List (View.Piece (Elt F) S256x1024 .f32)), Σ' (L5 : List (View.Piece (Elt F) S256x1024 .bf16)), Σ' (L6 : List (View.Piece (Elt F) S256x1024 .bf16)), Σ' (L7 : List (View.Piece (Elt F) S256x2816 .bf16)), Σ' (L8 : List (View.Piece (Elt F) S256x2816 .bf16)), Σ' (L9 : List (View.Piece (Elt F) S256x2816 .bf16)), Σ' (L10 : List (View.Piece (Elt F) S8x1024 .f32)), Σ' (L11 : List (View.Piece (Elt F) S8x1024 .f32)), Σ' (L12 : List (View.Piece (Elt F) S8x1024 .f32)), Σ' (LS0 : List (View.Piece (Elt F) S2816x1024 .bf16)), Σ' (LS1 : List (View.Piece (Elt F) S2816x1024 .bf16)), Σ' (LS2 : List (View.Piece (Elt F) S2816x1024 .bf16)), Σ' (LT3 : List (View.Piece (Elt F) S256x2816 .f32)), { LT4 : List (View.Piece (Elt F) S256x2816 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg11.view.loc (c : Thread nD τ) ↦[arg11.view.set]{fullShare} arg11.view.writes (Elt F) f L4) ∗ (∃ f, arg12.view.loc (c : Thread nD τ) ↦[arg12.view.set]{fullShare} arg12.view.writes (Elt F) f L5) ∗ (∃ f, arg13.view.loc (c : Thread nD τ) ↦[arg13.view.set]{fullShare} arg13.view.writes (Elt F) f L6) ∗ (∃ f, arg14.view.loc (c : Thread nD τ) ↦[arg14.view.set]{fullShare} arg14.view.writes (Elt F) f L7) ∗ (∃ f, arg15.view.loc (c : Thread nD τ) ↦[arg15.view.set]{fullShare} arg15.view.writes (Elt F) f L8) ∗ (∃ f, arg16.view.loc (c : Thread nD τ) ↦[arg16.view.set]{fullShare} arg16.view.writes (Elt F) f L9) ∗ (∃ f, arg17.view.loc (c : Thread nD τ) ↦[arg17.view.set]{fullShare} arg17.view.writes (Elt F) f L10) ∗ (∃ f, arg18.view.loc (c : Thread nD τ) ↦[arg18.view.set]{fullShare} arg18.view.writes (Elt F) f L11) ∗ (∃ f, arg19.view.loc (c : Thread nD τ) ↦[arg19.view.set]{fullShare} arg19.view.writes (Elt F) f L12) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LT3) ∗ (∃ f, arg24.view.loc (c : Thread nD τ) ↦[arg24.view.set]{fullShare} arg24.view.writes (Elt F) f LT4) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_ffn_fwd_bwd i arg1 harg1 arg2 harg2 arg3 harg3 arg4 harg4 (Memref.whole main_v8) (Memref.isWhole_whole _) (Memref.whole main_v9) (Memref.isWhole_whole _) (Memref.whole main_v10) (Memref.isWhole_whole _) (Memref.whole main_v14) (Memref.isWhole_whole _) (Memref.whole main_v16) (Memref.isWhole_whole _) (Memref.whole main_v18) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 cc0_scratch5) K } := by
  refine ⟨?_, ?_, ?_, ?_, ?_, ?_, ?_, ?_, ?_, ?_, ?_, ?_, ?_, ?_, fun W K => ?run⟩
  case run =>
    simp only [cc0_ffn_fwd_bwd_eq_skeleton]; unfold cc0_ffn_fwd_bwd_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hq8, Hq9, Hq10, Hq11, Hh0, Hh1, Hh2, Hh3, Hh4, Hh5, HW, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelIdeal.Ffn

end
-- ==== Proof.Ffn.RunB.lean ====
module

public import proofs.«01_k».proof.Proof.Ffn.RunA

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.dmaWindow true in
set_option sl_exec.dmaWindowSet true in
set_option sl_exec.dmaWindowLent true in
set_option maxHeartbeats 2400000 in
/-- The body of the call in case B of its branches: the pieces its stores leave in each output and each scratch (last first), with the
    proof that the body, started on whole buffers with its cells at zero, ends with exactly those pieces written. The copies of the
    weight blocks each own only the window they fill, so several may be in flight into one scratch. -/
noncomputable def bodyB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S8x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S2816x1024 .bf16) (harg20 : arg20.IsWhole) (arg21 : Memref sig .tc .vmem S2816x1024 .bf16) (harg21 : arg21.IsWhole) (arg22 : Memref sig .tc .vmem S2816x1024 .bf16) (harg22 : arg22.IsWhole) (arg23 : Memref sig .tc .vmem S256x2816 .f32) (harg23 : arg23.IsWhole) (arg24 : Memref sig .tc .vmem S256x2816 .f32) (harg24 : arg24.IsWhole) (hc0 : ¬cond0_0 i)
    (x0 : Vec F S256x1024 .f32) (x1 : Vec F S256x1024 .f32) (x2 : Vec F S1x1024 .f32) (x3 : Vec F S1x1024 .f32) (xo10 : Vec F S8x1024 .f32) (xo11 : Vec F S8x1024 .f32) (xo12 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    Σ' (L4 : List (View.Piece (Elt F) S256x1024 .f32)), Σ' (L5 : List (View.Piece (Elt F) S256x1024 .bf16)), Σ' (L6 : List (View.Piece (Elt F) S256x1024 .bf16)), Σ' (L7 : List (View.Piece (Elt F) S256x2816 .bf16)), Σ' (L8 : List (View.Piece (Elt F) S256x2816 .bf16)), Σ' (L9 : List (View.Piece (Elt F) S256x2816 .bf16)), Σ' (L10 : List (View.Piece (Elt F) S8x1024 .f32)), Σ' (L11 : List (View.Piece (Elt F) S8x1024 .f32)), Σ' (L12 : List (View.Piece (Elt F) S8x1024 .f32)), Σ' (LS0 : List (View.Piece (Elt F) S2816x1024 .bf16)), Σ' (LS1 : List (View.Piece (Elt F) S2816x1024 .bf16)), Σ' (LS2 : List (View.Piece (Elt F) S2816x1024 .bf16)), Σ' (LT3 : List (View.Piece (Elt F) S256x2816 .f32)), { LT4 : List (View.Piece (Elt F) S256x2816 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo10 ∗ owns (c : Thread nD τ) arg18 fullShare xo11 ∗ owns (c : Thread nD τ) arg19 fullShare xo12 ∗ owns (c : Thread nD τ) arg20 fullShare xs0 ∗ owns (c : Thread nD τ) arg21 fullShare xs1 ∗ owns (c : Thread nD τ) arg22 fullShare xs2 ∗ (∃ d, owns (c : Thread nD τ) arg23 fullShare d) ∗ (∃ d, owns (c : Thread nD τ) arg24 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg11.view.loc (c : Thread nD τ) ↦[arg11.view.set]{fullShare} arg11.view.writes (Elt F) f L4) ∗ (∃ f, arg12.view.loc (c : Thread nD τ) ↦[arg12.view.set]{fullShare} arg12.view.writes (Elt F) f L5) ∗ (∃ f, arg13.view.loc (c : Thread nD τ) ↦[arg13.view.set]{fullShare} arg13.view.writes (Elt F) f L6) ∗ (∃ f, arg14.view.loc (c : Thread nD τ) ↦[arg14.view.set]{fullShare} arg14.view.writes (Elt F) f L7) ∗ (∃ f, arg15.view.loc (c : Thread nD τ) ↦[arg15.view.set]{fullShare} arg15.view.writes (Elt F) f L8) ∗ (∃ f, arg16.view.loc (c : Thread nD τ) ↦[arg16.view.set]{fullShare} arg16.view.writes (Elt F) f L9) ∗ (∃ f, arg17.view.loc (c : Thread nD τ) ↦[arg17.view.set]{fullShare} arg17.view.writes (Elt F) f L10) ∗ (∃ f, arg18.view.loc (c : Thread nD τ) ↦[arg18.view.set]{fullShare} arg18.view.writes (Elt F) f L11) ∗ (∃ f, arg19.view.loc (c : Thread nD τ) ↦[arg19.view.set]{fullShare} arg19.view.writes (Elt F) f L12) ∗ owns (c : Thread nD τ) arg20 fullShare xs0 ∗ owns (c : Thread nD τ) arg21 fullShare xs1 ∗ owns (c : Thread nD τ) arg22 fullShare xs2 ∗ (∃ f, arg23.view.loc (c : Thread nD τ) ↦[arg23.view.set]{fullShare} arg23.view.writes (Elt F) f LT3) ∗ (∃ f, arg24.view.loc (c : Thread nD τ) ↦[arg24.view.set]{fullShare} arg24.view.writes (Elt F) f LT4) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_ffn_fwd_bwd i arg1 harg1 arg2 harg2 arg3 harg3 arg4 harg4 (Memref.whole main_v8) (Memref.isWhole_whole _) (Memref.whole main_v9) (Memref.isWhole_whole _) (Memref.whole main_v10) (Memref.isWhole_whole _) (Memref.whole main_v14) (Memref.isWhole_whole _) (Memref.whole main_v16) (Memref.isWhole_whole _) (Memref.whole main_v18) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 cc0_scratch5) K } := by
  refine ⟨?_, ?_, ?_, ?_, ?_, ?_, ?_, ?_, ?_, [], [], [], ?_, ?_, fun W K => ?run⟩
  case run =>
    simp only [cc0_ffn_fwd_bwd_eq_skeleton]; unfold cc0_ffn_fwd_bwd_skel
    simp only [k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%ds3, %fs3, -, HS3⟩, ⟨%ds4, %fs4, -, HS4⟩, Hq0, Hq1, Hq2, Hq3, Hq4, Hq5, Hq6, Hq7, Hq8, Hq9, Hq10, Hq11, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg17.eq_unread hf10; obtain rfl := harg18.eq_unread hf11; obtain rfl := harg19.eq_unread hf12; obtain rfl := harg20.eq_unread hfs0; obtain rfl := harg21.eq_unread hfs1; obtain rfl := harg22.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg20.read_unread _
      iexact HS0
    isplitl [HS1]
    · iexists _; isplitr; · ipureintro; exact harg21.read_unread _
      iexact HS1
    isplitl [HS2]
    · iexists _; isplitr; · ipureintro; exact harg22.read_unread _
      iexact HS2
    isplitl [HS3]; · iexists _; iexact HS3
    isplitl [HS4]; · iexists _; iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelIdeal.Ffn

end
-- ==== Proof.Ffn.Steps.lean ====
module

public import proofs.«01_k».proof.Proof.Ffn.RunB

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a point leaves: every output in the order of the call, then the carried scratches. -/
abbrev Left (F : FTy → Type) : Type :=
  Vec F S256x1024 .f32 × Vec F S256x1024 .bf16 × Vec F S256x1024 .bf16 × Vec F S256x2816 .bf16 × Vec F S256x2816 .bf16 × Vec F S256x2816 .bf16 × Vec F S8x1024 .f32 × Vec F S8x1024 .f32 × Vec F S8x1024 .f32 × Vec F S2816x1024 .bf16 × Vec F S2816x1024 .bf16 × Vec F S2816x1024 .bf16

/-- The run of case A at point `t`: on the staging buffers of that point, the blocks of its inputs. -/
def runA (c : Dev nD) (t : Fin cfg0.N) (h0 : t.val % 32 = 0) :=
  bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (V m c main_v8) (V m c main_v9) (V m c main_v10) (V m c main_v14) (V m c main_v16) (V m c main_v18)

theorem coverA_4 (c : Dev nD) (t : Fin cfg0.N) (h0 : t.val % 32 = 0) (y : S256x1024.Idx) : ∃ pc ∈ (runA m c t h0).1, y ∈ pc.1.set :=
  View.cover_of_tiledL (runA m c t h0).1 S256x1024.size (by sl_kernel_rfl) y

theorem coverA_5 (c : Dev nD) (t : Fin cfg0.N) (h0 : t.val % 32 = 0) (y : S256x1024.Idx) : ∃ pc ∈ (runA m c t h0).2.1, y ∈ pc.1.set :=
  View.cover_of_tiledL (runA m c t h0).2.1 S256x1024.size (by sl_kernel_rfl) y

theorem coverA_6 (c : Dev nD) (t : Fin cfg0.N) (h0 : t.val % 32 = 0) (y : S256x1024.Idx) : ∃ pc ∈ (runA m c t h0).2.2.1, y ∈ pc.1.set :=
  View.cover_of_tiledL (runA m c t h0).2.2.1 S256x1024.size (by sl_kernel_rfl) y

theorem coverA_7 (c : Dev nD) (t : Fin cfg0.N) (h0 : t.val % 32 = 0) (y : S256x2816.Idx) : ∃ pc ∈ (runA m c t h0).2.2.2.1, y ∈ pc.1.set :=
  View.cover_of_tiledBy (runA m c t h0).2.2.2.1 ![256, 256] (by sl_kernel_rfl) y

theorem coverA_8 (c : Dev nD) (t : Fin cfg0.N) (h0 : t.val % 32 = 0) (y : S256x2816.Idx) : ∃ pc ∈ (runA m c t h0).2.2.2.2.1, y ∈ pc.1.set :=
  View.cover_of_tiledBy (runA m c t h0).2.2.2.2.1 ![256, 256] (by sl_kernel_rfl) y

theorem coverA_9 (c : Dev nD) (t : Fin cfg0.N) (h0 : t.val % 32 = 0) (y : S256x2816.Idx) : ∃ pc ∈ (runA m c t h0).2.2.2.2.2.1, y ∈ pc.1.set :=
  View.cover_of_tiledBy (runA m c t h0).2.2.2.2.2.1 ![256, 256] (by sl_kernel_rfl) y

theorem coverA_10 (c : Dev nD) (t : Fin cfg0.N) (h0 : t.val % 32 = 0) (y : S8x1024.Idx) : ∃ pc ∈ (runA m c t h0).2.2.2.2.2.2.1, y ∈ pc.1.set :=
  View.cover_of_tiledL (runA m c t h0).2.2.2.2.2.2.1 S8x1024.size (by sl_kernel_rfl) y

theorem coverA_11 (c : Dev nD) (t : Fin cfg0.N) (h0 : t.val % 32 = 0) (y : S8x1024.Idx) : ∃ pc ∈ (runA m c t h0).2.2.2.2.2.2.2.1, y ∈ pc.1.set :=
  View.cover_of_tiledL (runA m c t h0).2.2.2.2.2.2.2.1 S8x1024.size (by sl_kernel_rfl) y

theorem coverA_12 (c : Dev nD) (t : Fin cfg0.N) (h0 : t.val % 32 = 0) (y : S8x1024.Idx) : ∃ pc ∈ (runA m c t h0).2.2.2.2.2.2.2.2.1, y ∈ pc.1.set :=
  View.cover_of_tiledL (runA m c t h0).2.2.2.2.2.2.2.2.1 S8x1024.size (by sl_kernel_rfl) y

theorem scoverA_0 (c : Dev nD) (t : Fin cfg0.N) (h0 : t.val % 32 = 0) (y : S2816x1024.Idx) : ∃ pc ∈ (runA m c t h0).2.2.2.2.2.2.2.2.2.1, y ∈ pc.1.set :=
  View.cover_of_tiledL (runA m c t h0).2.2.2.2.2.2.2.2.2.1 S704x1024.size (by sl_kernel_rfl) y

theorem scoverA_1 (c : Dev nD) (t : Fin cfg0.N) (h0 : t.val % 32 = 0) (y : S2816x1024.Idx) : ∃ pc ∈ (runA m c t h0).2.2.2.2.2.2.2.2.2.2.1, y ∈ pc.1.set :=
  View.cover_of_tiledL (runA m c t h0).2.2.2.2.2.2.2.2.2.2.1 S704x1024.size (by sl_kernel_rfl) y

theorem scoverA_2 (c : Dev nD) (t : Fin cfg0.N) (h0 : t.val % 32 = 0) (y : S2816x1024.Idx) : ∃ pc ∈ (runA m c t h0).2.2.2.2.2.2.2.2.2.2.2.1, y ∈ pc.1.set :=
  View.cover_of_tiledL (runA m c t h0).2.2.2.2.2.2.2.2.2.2.2.1 S704x1024.size (by sl_kernel_rfl) y

/-- What case A leaves in each output and each carried scratch: its pieces read back. -/
def stepA (c : Dev nD) (t : Fin cfg0.N) (h0 : t.val % 32 = 0) : Left F :=
  (VO0_4.read (Elt F) (VO0_4.writes (Elt F) VO0_4.junk (runA m c t h0).1),
   VO0_5.read (Elt F) (VO0_5.writes (Elt F) VO0_5.junk (runA m c t h0).2.1),
   VO0_6.read (Elt F) (VO0_6.writes (Elt F) VO0_6.junk (runA m c t h0).2.2.1),
   VO0_7.read (Elt F) (VO0_7.writes (Elt F) VO0_7.junk (runA m c t h0).2.2.2.1),
   VO0_8.read (Elt F) (VO0_8.writes (Elt F) VO0_8.junk (runA m c t h0).2.2.2.2.1),
   VO0_9.read (Elt F) (VO0_9.writes (Elt F) VO0_9.junk (runA m c t h0).2.2.2.2.2.1),
   VO0_10.read (Elt F) (VO0_10.writes (Elt F) VO0_10.junk (runA m c t h0).2.2.2.2.2.2.1),
   VO0_11.read (Elt F) (VO0_11.writes (Elt F) VO0_11.junk (runA m c t h0).2.2.2.2.2.2.2.1),
   VO0_12.read (Elt F) (VO0_12.writes (Elt F) VO0_12.junk (runA m c t h0).2.2.2.2.2.2.2.2.1),
   VS0_0.read (Elt F) (VS0_0.writes (Elt F) VS0_0.junk (runA m c t h0).2.2.2.2.2.2.2.2.2.1),
   VS0_1.read (Elt F) (VS0_1.writes (Elt F) VS0_1.junk (runA m c t h0).2.2.2.2.2.2.2.2.2.2.1),
   VS0_2.read (Elt F) (VS0_2.writes (Elt F) VS0_2.junk (runA m c t h0).2.2.2.2.2.2.2.2.2.2.2.1))

/-- The run of case B at point `t`: on the staging buffers of that point, the blocks of its inputs and what the point before left. -/
def runB (c : Dev nD) (t : Fin cfg0.N) (h0 : ¬t.val % 32 = 0) (p : Left F) :=
  bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) p.2.2.2.2.2.2.1 p.2.2.2.2.2.2.2.1 p.2.2.2.2.2.2.2.2.1 p.2.2.2.2.2.2.2.2.2.1 p.2.2.2.2.2.2.2.2.2.2.1 p.2.2.2.2.2.2.2.2.2.2.2 (V m c main_v8) (V m c main_v9) (V m c main_v10) (V m c main_v14) (V m c main_v16) (V m c main_v18)

theorem coverB_4 (c : Dev nD) (t : Fin cfg0.N) (h0 : ¬t.val % 32 = 0) (p : Left F) (y : S256x1024.Idx) : ∃ pc ∈ (runB m c t h0 p).1, y ∈ pc.1.set :=
  View.cover_of_tiledL (runB m c t h0 p).1 S256x1024.size (by sl_kernel_rfl) y

theorem coverB_5 (c : Dev nD) (t : Fin cfg0.N) (h0 : ¬t.val % 32 = 0) (p : Left F) (y : S256x1024.Idx) : ∃ pc ∈ (runB m c t h0 p).2.1, y ∈ pc.1.set :=
  View.cover_of_tiledL (runB m c t h0 p).2.1 S256x1024.size (by sl_kernel_rfl) y

theorem coverB_6 (c : Dev nD) (t : Fin cfg0.N) (h0 : ¬t.val % 32 = 0) (p : Left F) (y : S256x1024.Idx) : ∃ pc ∈ (runB m c t h0 p).2.2.1, y ∈ pc.1.set :=
  View.cover_of_tiledL (runB m c t h0 p).2.2.1 S256x1024.size (by sl_kernel_rfl) y

theorem coverB_7 (c : Dev nD) (t : Fin cfg0.N) (h0 : ¬t.val % 32 = 0) (p : Left F) (y : S256x2816.Idx) : ∃ pc ∈ (runB m c t h0 p).2.2.2.1, y ∈ pc.1.set :=
  View.cover_of_tiledBy (runB m c t h0 p).2.2.2.1 ![256, 256] (by sl_kernel_rfl) y

theorem coverB_8 (c : Dev nD) (t : Fin cfg0.N) (h0 : ¬t.val % 32 = 0) (p : Left F) (y : S256x2816.Idx) : ∃ pc ∈ (runB m c t h0 p).2.2.2.2.1, y ∈ pc.1.set :=
  View.cover_of_tiledBy (runB m c t h0 p).2.2.2.2.1 ![256, 256] (by sl_kernel_rfl) y

theorem coverB_9 (c : Dev nD) (t : Fin cfg0.N) (h0 : ¬t.val % 32 = 0) (p : Left F) (y : S256x2816.Idx) : ∃ pc ∈ (runB m c t h0 p).2.2.2.2.2.1, y ∈ pc.1.set :=
  View.cover_of_tiledBy (runB m c t h0 p).2.2.2.2.2.1 ![256, 256] (by sl_kernel_rfl) y

theorem coverB_10 (c : Dev nD) (t : Fin cfg0.N) (h0 : ¬t.val % 32 = 0) (p : Left F) (y : S8x1024.Idx) : ∃ pc ∈ (runB m c t h0 p).2.2.2.2.2.2.1, y ∈ pc.1.set :=
  View.cover_of_tiledL (runB m c t h0 p).2.2.2.2.2.2.1 S8x1024.size (by sl_kernel_rfl) y

theorem coverB_11 (c : Dev nD) (t : Fin cfg0.N) (h0 : ¬t.val % 32 = 0) (p : Left F) (y : S8x1024.Idx) : ∃ pc ∈ (runB m c t h0 p).2.2.2.2.2.2.2.1, y ∈ pc.1.set :=
  View.cover_of_tiledL (runB m c t h0 p).2.2.2.2.2.2.2.1 S8x1024.size (by sl_kernel_rfl) y

theorem coverB_12 (c : Dev nD) (t : Fin cfg0.N) (h0 : ¬t.val % 32 = 0) (p : Left F) (y : S8x1024.Idx) : ∃ pc ∈ (runB m c t h0 p).2.2.2.2.2.2.2.2.1, y ∈ pc.1.set :=
  View.cover_of_tiledL (runB m c t h0 p).2.2.2.2.2.2.2.2.1 S8x1024.size (by sl_kernel_rfl) y

/-- What case B leaves in each output and each carried scratch: its pieces read back. -/
def stepB (c : Dev nD) (t : Fin cfg0.N) (h0 : ¬t.val % 32 = 0) (p : Left F) : Left F :=
  (VO0_4.read (Elt F) (VO0_4.writes (Elt F) VO0_4.junk (runB m c t h0 p).1),
   VO0_5.read (Elt F) (VO0_5.writes (Elt F) VO0_5.junk (runB m c t h0 p).2.1),
   VO0_6.read (Elt F) (VO0_6.writes (Elt F) VO0_6.junk (runB m c t h0 p).2.2.1),
   VO0_7.read (Elt F) (VO0_7.writes (Elt F) VO0_7.junk (runB m c t h0 p).2.2.2.1),
   VO0_8.read (Elt F) (VO0_8.writes (Elt F) VO0_8.junk (runB m c t h0 p).2.2.2.2.1),
   VO0_9.read (Elt F) (VO0_9.writes (Elt F) VO0_9.junk (runB m c t h0 p).2.2.2.2.2.1),
   VO0_10.read (Elt F) (VO0_10.writes (Elt F) VO0_10.junk (runB m c t h0 p).2.2.2.2.2.2.1),
   VO0_11.read (Elt F) (VO0_11.writes (Elt F) VO0_11.junk (runB m c t h0 p).2.2.2.2.2.2.2.1),
   VO0_12.read (Elt F) (VO0_12.writes (Elt F) VO0_12.junk (runB m c t h0 p).2.2.2.2.2.2.2.2.1),
   p.2.2.2.2.2.2.2.2.2.1,
   p.2.2.2.2.2.2.2.2.2.2.1,
   p.2.2.2.2.2.2.2.2.2.2.2)

end Cert.KernelIdeal.Ffn

end
-- ==== Proof.Ffn.Frame.lean ====
module

public import proofs.«01_k».proof.Proof.Ffn.Steps
public import Idealize.ShloMosaic.Lib.Claim

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What each point leaves: the first point starts, every later one goes on from what the point before left. -/
def outs (c : Dev nD) : (n : ℕ) → n < cfg0.N → Left F
  | 0, hn => stepA m c ⟨0, hn⟩ (by first | exact Nat.zero_mod _ | decide | (show ¬_; simp))
  | n + 1, hn =>
    if h0 : (n + 1) % 32 = 0 then
      stepA m c ⟨n + 1, hn⟩ h0
    else
      stepB m c ⟨n + 1, hn⟩ h0 (outs c n (Nat.lt_of_succ_lt hn))

theorem outs_A (c : Dev nD) (t : Fin cfg0.N) (h0 : t.val % 32 = 0) :
    outs m c t.val t.isLt = stepA m c t h0 := by
  obtain ⟨n, hn⟩ := t
  cases n with
  | zero => exact rfl
  | succ n => exact (dif_pos h0).trans rfl

theorem outs_B (c : Dev nD) (t : Fin cfg0.N) (h0 : ¬t.val % 32 = 0) :
    outs m c t.val t.isLt = stepB m c t h0 (outs m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The invariant before position `n`: at the start what the launch hands over; afterwards each carried scratch at what the point
    before left in it, the other scratch at anything, the own cells at zero, the operands copied whole as the launch left them. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outs m c n hn).2.2.2.2.2.2.2.2.2.1) ∗ owns (c : Thread nD τ) scM0_1 fullShare ((outs m c n hn).2.2.2.2.2.2.2.2.2.2.1) ∗ owns (c : Thread nD τ) scM0_2 fullShare ((outs m c n hn).2.2.2.2.2.2.2.2.2.2.2) ∗ (∃ d, owns (c : Thread nD τ) scM0_3 fullShare d) ∗ (∃ d, owns (c : Thread nD τ) scM0_4 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v8) ∗ hbPt0 c hbM0_1 (V m c main_v9) ∗ hbPt0 c hbM0_2 (V m c main_v10) ∗ hbPt0 c hbM0_3 (V m c main_v14) ∗ hbPt0 c hbM0_4 (V m c main_v16) ∗ hbPt0 c hbM0_5 (V m c main_v18)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outs m c n hn).2.2.2.2.2.2.2.2.2.1) ∗ owns (c : Thread nD τ) scM0_1 fullShare ((outs m c n hn).2.2.2.2.2.2.2.2.2.2.1) ∗ owns (c : Thread nD τ) scM0_2 fullShare ((outs m c n hn).2.2.2.2.2.2.2.2.2.2.2) ∗ (∃ d, owns (c : Thread nD τ) scM0_3 fullShare d) ∗ (∃ d, owns (c : Thread nD τ) scM0_4 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v8) ∗ hbPt0 c hbM0_1 (V m c main_v9) ∗ hbPt0 c hbM0_2 (V m c main_v10) ∗ hbPt0 c hbM0_3 (V m c main_v14) ∗ hbPt0 c hbM0_4 (V m c main_v16) ∗ hbPt0 c hbM0_5 (V m c main_v18))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outs m c (n - 1) (by omega)).2.2.2.2.2.2.2.2.2.1) ∗ owns (c : Thread nD τ) scM0_1 fullShare ((outs m c (n - 1) (by omega)).2.2.2.2.2.2.2.2.2.2.1) ∗ owns (c : Thread nD τ) scM0_2 fullShare ((outs m c (n - 1) (by omega)).2.2.2.2.2.2.2.2.2.2.2) ∗ (∃ d, owns (c : Thread nD τ) scM0_3 fullShare d) ∗ (∃ d, owns (c : Thread nD τ) scM0_4 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v8) ∗ hbPt0 c hbM0_1 (V m c main_v9) ∗ hbPt0 c hbM0_2 (V m c main_v10) ∗ hbPt0 c hbM0_3 (V m c main_v14) ∗ hbPt0 c hbM0_4 (V m c main_v16) ∗ hbPt0 c hbM0_5 (V m c main_v18))) := by
  cases n with
  | zero => exact absurd rfl hz
  | succ n => rfl

/-! ## The pipeline's proof data -/

/-- The data of the pipeline on core `c`: the arrays as the region finds them, each window after each point, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outs m c t.val t.isLt).1
    | ⟨5, _⟩ => (outs m c t.val t.isLt).2.1
    | ⟨6, _⟩ => (outs m c t.val t.isLt).2.2.1
    | ⟨7, _⟩ => (outs m c t.val t.isLt).2.2.2.1
    | ⟨8, _⟩ => (outs m c t.val t.isLt).2.2.2.2.1
    | ⟨9, _⟩ => (outs m c t.val t.isLt).2.2.2.2.2.1
    | ⟨10, _⟩ => (outs m c t.val t.isLt).2.2.2.2.2.2.1
    | ⟨11, _⟩ => (outs m c t.val t.isLt).2.2.2.2.2.2.2.1
    | ⟨12, _⟩ => (outs m c t.val t.isLt).2.2.2.2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outs m c t.val t.isLt).1 := by dsimp only [dats]
theorem after0_5 (c : Dev nD) (t : Fin cfg0.N) : (dats m 0 c).after 5 t = (outs m c t.val t.isLt).2.1 := by dsimp only [dats]
theorem after0_6 (c : Dev nD) (t : Fin cfg0.N) : (dats m 0 c).after 6 t = (outs m c t.val t.isLt).2.2.1 := by dsimp only [dats]
theorem after0_7 (c : Dev nD) (t : Fin cfg0.N) : (dats m 0 c).after 7 t = (outs m c t.val t.isLt).2.2.2.1 := by dsimp only [dats]
theorem after0_8 (c : Dev nD) (t : Fin cfg0.N) : (dats m 0 c).after 8 t = (outs m c t.val t.isLt).2.2.2.2.1 := by dsimp only [dats]
theorem after0_9 (c : Dev nD) (t : Fin cfg0.N) : (dats m 0 c).after 9 t = (outs m c t.val t.isLt).2.2.2.2.2.1 := by dsimp only [dats]
theorem after0_10 (c : Dev nD) (t : Fin cfg0.N) : (dats m 0 c).after 10 t = (outs m c t.val t.isLt).2.2.2.2.2.2.1 := by dsimp only [dats]
theorem after0_11 (c : Dev nD) (t : Fin cfg0.N) : (dats m 0 c).after 11 t = (outs m c t.val t.isLt).2.2.2.2.2.2.2.1 := by dsimp only [dats]
theorem after0_12 (c : Dev nD) (t : Fin cfg0.N) : (dats m 0 c).after 12 t = (outs m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_10_B (c : Dev nD) (t : Fin cfg0.N) (h0 : ¬t.val % 32 = 0) (d) :
    (dats m 0 c).before 10 t d = (outs m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]
theorem before0_11_B (c : Dev nD) (t : Fin cfg0.N) (h0 : ¬t.val % 32 = 0) (d) :
    (dats m 0 c).before 11 t d = (outs m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
theorem before0_12_B (c : Dev nD) (t : Fin cfg0.N) (h0 : ¬t.val % 32 = 0) (d) :
    (dats m 0 c).before 12 t d = (outs m c (t.val - 1) (Nat.lt_of_le_of_lt (Nat.sub_le _ _) t.isLt)).2.2.2.2.2.2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 12800000 in
/-- The body at any point: the case the point is in decides the run; its outputs are read back by the covers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7, after0_8, after0_9, after0_10, after0_11, after0_12]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outs_A m c t h0]
      unfold stepA; (try dsimp only)
      iintro ⟨⟨⟨HS0, HS1, HS2, HS3, HS4⟩, Hg, ⟨Hq0, Hq1, Hq2, Hq3, Hq4, Hq5, Hq6, Hq7, Hq8, Hq9, Hq10, Hq11⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA m c t h0).2.2.2.2.2.2.2.2.2.2.2.2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [HW]; · iexact HW
      iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%fT3, HS3⟩, ⟨%fT4, HS4⟩, Hq0, Hq1, Hq2, Hq3, Hq4, Hq5, Hq6, Hq7, Hq8, Hq9, Hq10, Hq11, Hh0, Hh1, Hh2, Hh3, Hh4, Hh5, ⟨%W', HW'⟩⟩
      isplitl [HS0 HS1 HS2 HS3 HS4 Hg Hq0 Hq1 Hq2 Hq3 Hq4 Hq5 Hq6 Hq7 Hq8 Hq9 Hq10 Hq11 Hh0 Hh1 Hh2 Hh3 Hh4 Hh5]
      · isplitl [HS0 HS1 HS2 HS3 HS4]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          isplitl [HS2]
          · unfold owns; iexists _; isplitr
            swap; · iexact HS2
            ipureintro; exact View.read_writes_of_cover _ _ _ _ _ (scoverA_2 m c t h0)
          isplitl [HS3]
          · iexists _; unfold owns; iexists _; isplitr
            swap; · iexact HS3
            ipureintro; rfl
          iexists _; unfold owns; iexists _; isplitr
          swap; · iexact HS4
          ipureintro; rfl
        isplitl [Hg]
        · iexact Hg
        isplitl [Hq0 Hq1 Hq2 Hq3 Hq4 Hq5 Hq6 Hq7 Hq8 Hq9 Hq10 Hq11]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          iexact Hq11
        isplitl [Hh0]; · iexact Hh0
        isplitl [Hh1]; · iexact Hh1
        isplitl [Hh2]; · iexact Hh2
        isplitl [Hh3]; · iexact Hh3
        isplitl [Hh4]; · iexact Hh4
        iexact Hh5
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverA_4 m c t h0)
      isplitl [H5]
      · unfold owns; iexists _; isplitr
        swap; · iexact H5
        ipureintro; exact View.read_writes_of_cover _ _ _ _ _ (coverA_5 m c t h0)
      isplitl [H6]
      · unfold owns; iexists _; isplitr
        swap; · iexact H6
        ipureintro; exact View.read_writes_of_cover _ _ _ _ _ (coverA_6 m c t h0)
      isplitl [H7]
      · unfold owns; iexists _; isplitr
        swap; · iexact H7
        ipureintro; exact View.read_writes_of_cover _ _ _ _ _ (coverA_7 m c t h0)
      isplitl [H8]
      · unfold owns; iexists _; isplitr
        swap; · iexact H8
        ipureintro; exact View.read_writes_of_cover _ _ _ _ _ (coverA_8 m c t h0)
      isplitl [H9]
      · unfold owns; iexists _; isplitr
        swap; · iexact H9
        ipureintro; exact View.read_writes_of_cover _ _ _ _ _ (coverA_9 m c t h0)
      isplitl [H10]
      · unfold owns; iexists _; isplitr
        swap; · iexact H10
        ipureintro; exact View.read_writes_of_cover _ _ _ _ _ (coverA_10 m c t h0)
      isplitl [H11]
      · unfold owns; iexists _; isplitr
        swap; · iexact H11
        ipureintro; exact View.read_writes_of_cover _ _ _ _ _ (coverA_11 m c t h0)
      unfold owns; iexists _; isplitr
      swap; · iexact H12
      ipureintro; exact View.read_writes_of_cover _ _ _ _ _ (coverA_12 m c t h0)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outs_B m c t h0]
      simp only [before0_10_B m c t h0, before0_11_B m c t h0, before0_12_B m c t h0]
      unfold stepB; (try dsimp only)
      iintro ⟨⟨⟨HS0, HS1, HS2, HS3, HS4⟩, Hg, ⟨Hq0, Hq1, Hq2, Hq3, Hq4, Hq5, Hq6, Hq7, Hq8, Hq9, Hq10, Hq11⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runB m c t h0 _).2.2.2.2.2.2.2.2.2.2.2.2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexact H10
      isplitl [H11]; · iexact H11
      isplitl [H12]; · iexact H12
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [HW]; · iexact HW
      iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, HS0, HS1, HS2, ⟨%fT3, HS3⟩, ⟨%fT4, HS4⟩, Hq0, Hq1, Hq2, Hq3, Hq4, Hq5, Hq6, Hq7, Hq8, Hq9, Hq10, Hq11, Hh0, Hh1, Hh2, Hh3, Hh4, Hh5, ⟨%W', HW'⟩⟩
      isplitl [HS0 HS1 HS2 HS3 HS4 Hg Hq0 Hq1 Hq2 Hq3 Hq4 Hq5 Hq6 Hq7 Hq8 Hq9 Hq10 Hq11 Hh0 Hh1 Hh2 Hh3 Hh4 Hh5]
      · isplitl [HS0 HS1 HS2 HS3 HS4]
        · isplitl [HS0]; · iexact HS0
          isplitl [HS1]; · iexact HS1
          isplitl [HS2]; · iexact HS2
          isplitl [HS3]
          · iexists _; unfold owns; iexists _; isplitr
            swap; · iexact HS3
            ipureintro; rfl
          iexists _; unfold owns; iexists _; isplitr
          swap; · iexact HS4
          ipureintro; rfl
        isplitl [Hg]
        · iexact Hg
        isplitl [Hq0 Hq1 Hq2 Hq3 Hq4 Hq5 Hq6 Hq7 Hq8 Hq9 Hq10 Hq11]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          iexact Hq11
        isplitl [Hh0]; · iexact Hh0
        isplitl [Hh1]; · iexact Hh1
        isplitl [Hh2]; · iexact Hh2
        isplitl [Hh3]; · iexact Hh3
        isplitl [Hh4]; · iexact Hh4
        iexact Hh5
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB_4 m c t h0 _)
      isplitl [H5]
      · unfold owns; iexists _; isplitr
        swap; · iexact H5
        ipureintro; exact View.read_writes_of_cover _ _ _ _ _ (coverB_5 m c t h0 _)
      isplitl [H6]
      · unfold owns; iexists _; isplitr
        swap; · iexact H6
        ipureintro; exact View.read_writes_of_cover _ _ _ _ _ (coverB_6 m c t h0 _)
      isplitl [H7]
      · unfold owns; iexists _; isplitr
        swap; · iexact H7
        ipureintro; exact View.read_writes_of_cover _ _ _ _ _ (coverB_7 m c t h0 _)
      isplitl [H8]
      · unfold owns; iexists _; isplitr
        swap; · iexact H8
        ipureintro; exact View.read_writes_of_cover _ _ _ _ _ (coverB_8 m c t h0 _)
      isplitl [H9]
      · unfold owns; iexists _; isplitr
        swap; · iexact H9
        ipureintro; exact View.read_writes_of_cover _ _ _ _ _ (coverB_9 m c t h0 _)
      isplitl [H10]
      · unfold owns; iexists _; isplitr
        swap; · iexact H10
        ipureintro; exact View.read_writes_of_cover _ _ _ _ _ (coverB_10 m c t h0 _)
      isplitl [H11]
      · unfold owns; iexists _; isplitr
        swap; · iexact H11
        ipureintro; exact View.read_writes_of_cover _ _ _ _ _ (coverB_11 m c t h0 _)
      unfold owns; iexists _; isplitr
      swap; · iexact H12
      ipureintro; exact View.read_writes_of_cover _ _ _ _ _ (coverB_12 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, ⟨Hq0, Hq1, Hq2, Hq3, Hq4, Hq5, Hq6, Hq7, Hq8, Hq9, Hq10, Hq11⟩, ⟨Hh0, Hh1, Hh2, Hh3, Hh4, Hh5⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexact HS3
    iexact HS4
  isplitl [Hg]; · iexact Hg
  isplitl [Hq0 Hq1 Hq2 Hq3 Hq4 Hq5 Hq6 Hq7 Hq8 Hq9 Hq10 Hq11]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    iexact Hq11
  isplitl [Hh0]; · iexact Hh0
  isplitl [Hh1]; · iexact Hh1
  isplitl [Hh2]; · iexact Hh2
  isplitl [Hh3]; · iexact Hh3
  isplitl [Hh4]; · iexact Hh4
  iexact Hh5

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

set_option backward.isDefEq.respectTransparency.types false in
set_option maxHeartbeats 800000 in
/-- The launch: every run ends, with the arrays at what the data say, the lines after the region done, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Ffn

end
-- ==== Proof.Ffn.Rows.lean ====
module

public import Idealize.ShloMosaic.PureOps.Ideal
public import Idealize.ShloMosaic.Lib.IdealHost

/-!
The feed-forward half of the step on one row, over the real numbers: the forward lines, the loss terms and the
gradients, in the order in which the call computes them.
-/

@[expose] public section

noncomputable section

namespace Cert.Ffn

open Idealize.ShloMosaic
open scoped BigOperators

/-- A row of the residual stream, and of the hidden layer. -/
abbrev Row : Type := Fin 1024 → ℝ
abbrev Hid : Type := Fin 2816 → ℝ
/-- A weight: one row of the residual width for each hidden unit. -/
abbrev Wt : Type := Fin 2816 → Fin 1024 → ℝ

/-- The constant added under the root of a norm, the rational its word is. -/
def eps : ℝ := 8796093 / 8796093022208

/-- The mean square of a row with the constant added. -/
def ms (x : Row) : ℝ := (∑ k, x k * x k) / 1024 + eps
/-- The reciprocal root of the mean square, and the row scaled by it. -/
def rs (x : Row) : ℝ := (√(ms x))⁻¹
def nrm (x : Row) : Row := fun j => x j * rs x
/-- The gradient of a norm: from the row, and the gradient already multiplied by the gain. -/
def back (x dg : Row) : Row := fun j => rs x * (dg j - nrm x j * ((∑ k, dg k * nrm x k) / 1024))

/-- The logistic function as the call spells it. -/
def sig (a : ℝ) : ℝ := 1 / (1 + Real.exp (0 - a))

/-- What one row of the call sees. -/
structure Inp where
  h : Row
  t : Row
  g3 : Row
  g4 : Row
  wg : Wt
  wu : Wt
  wd : Wt

namespace Inp
variable (p : Inp)

def f : Row := fun j => nrm p.h j * p.g3 j
def s : Hid := fun i => ∑ k, p.f k * p.wg i k
def u : Hid := fun i => ∑ k, p.f k * p.wu i k
def gg : Hid := fun i => p.s i * sig (p.s i) * p.u i
def d : Row := fun j => ∑ i, p.gg i * p.wd i j
def dh : Row := nrm p.d
def err : Row := fun j => p.h j + p.dh j * p.g4 j - p.t j
def dy : Row := fun j => p.err j * (1 / 1024)
def dyg : Row := fun j => p.dy j * p.g4 j
def dd : Row := back p.d p.dyg
def dgg : Hid := fun i => ∑ k, p.dd k * p.wd i k
def ds : Hid := fun i => p.dgg i * p.u i * (sig (p.s i) * (1 + p.s i * (1 - sig (p.s i))))
def du : Hid := fun i => p.dgg i * (p.s i * sig (p.s i))
def df : Row := fun j => ∑ i, p.ds i * p.wg i j + ∑ i, p.du i * p.wu i j
def dfg : Row := fun j => p.df j * p.g3 j
def dh1 : Row := fun j => p.dy j + back p.h p.dfg j

end Inp

theorem eps_pos : 0 < eps := by unfold eps; norm_num

theorem ms_pos (x : Row) : 0 < ms x :=
  add_pos_of_nonneg_of_pos (div_nonneg (Finset.sum_nonneg fun k _ => mul_self_nonneg (x k)) (by norm_num)) eps_pos

theorem one_add_exp_ne (a : ℝ) : 1 + Real.exp a ≠ 0 := (add_pos one_pos (Real.exp_pos a)).ne'

/-! ## Reals inside the extended reals -/

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_div {a b : ℝ} (h : b ≠ 0) : Ideal.div (a : EReal) (b : EReal) = ((a / b : ℝ) : EReal) := by
  rw [Ideal.div_coe h, ← EReal.coe_mul, mul_one_div]

theorem coe_rsqrt {a : ℝ} (h : 0 < a) : Ideal.rsqrt (a : EReal) = (((√a)⁻¹ : ℝ) : EReal) := by
  rw [Ideal.rsqrt_coe, if_neg (not_lt.2 h.le), if_neg h.ne']

theorem word_1024 : Ideal.ofBits .f32 0x44800000#32 = ((1024 : ℝ) : EReal) := by
  simp [Ideal.ofBits, Ideal.ieee, -EReal.coe_mul]; norm_num
theorem word_eps : Ideal.ofBits .f32 0x358637BD#32 = ((eps : ℝ) : EReal) := by
  simp [Ideal.ofBits, Ideal.ieee, -EReal.coe_mul]; norm_num [eps]
theorem word_inv1024 : Ideal.ofBits .f32 0x3A800000#32 = ((1 / 1024 : ℝ) : EReal) := by
  simp [Ideal.ofBits, Ideal.ieee, -EReal.coe_mul]; norm_num

end Cert.Ffn

end
-- ==== Proof.Ffn.Blocks.lean ====
module

public import proofs.«01_k».proof.Proof.Ffn.Rows
public import proofs.«01_k».proof.Proof.Gen.KernelIdeal.Skeleton
public import Idealize.ShloMosaic.Lib.Pointwise

/-!
What the call computes from one block of 256 rows: each value of the body on arrays of real numbers, then the five
results of a block in the terms of `Rows`.
-/

@[expose] public section

set_option maxRecDepth 16384

noncomputable section

namespace Cert.Ffn

open Idealize.ShloMosaic Cert.KernelIdeal Cert.KernelIdeal.Gen

/-- An array of reals read as an array of extended reals. -/
def up {n k : ℕ} (x : Fin n → Fin k → ℝ) : (⟨2, ![n, k]⟩ : Shape).Idx → EReal := fun i => ((x (i 0) (i 1) : ℝ) : EReal)

theorem up_ix2 {n k : ℕ} (x : Fin n → Fin k → ℝ) (a : Fin n) (b : Fin k) : up x (ix2 a b) = ((x a b : ℝ) : EReal) := rfl

/-! ## The values of the body, one by one -/

section values
variable (x y z t : Fin 256 → Fin 1024 → ℝ) (g : Row) (w v : Fin 1024 → Fin 1024 → ℝ)

theorem v_rs : k0_pay6 (F := Ideal) (up x) = up fun r (_ : Fin 1) => rs (x r) := by
  funext j; idx_vars j
  pointwise [k0_pay6, k0_pay5, up_ix2]
  simp only [word_1024, word_eps, ← EReal.coe_mul, ← EReal.coe_add, coe_sum, coe_div (by norm_num : (1024 : ℝ) ≠ 0)]
  exact coe_rsqrt (ms_pos (x j0))

theorem v_h : k0_pay5 (F := Ideal) (up x) = up x := by
  funext j; idx_vars j; pointwise [k0_pay5, up_ix2]

theorem v_nrm : k0_pay7 (F := Ideal) (up x) = up fun r => nrm (x r) := by
  funext j; idx_vars j
  pointwise [k0_pay7, v_rs, v_h, up_ix2]
  rw [← EReal.coe_mul]; rfl

theorem v_f : k0_pay8 (F := Ideal) (up x) (up fun (_ : Fin 1) => g) = up fun r j => nrm (x r) j * g j := by
  funext j; idx_vars j
  pointwise [k0_pay8, v_nrm, up_ix2]
  rw [← EReal.coe_mul]

theorem v_zero : k0_pay9 (F := Ideal) = up fun (_ : Fin 256) (_ : Fin 1024) => 0 := by
  funext j; idx_vars j; pointwise [k0_pay9, up_ix2]; rfl

theorem v_dotT : k0_pay16 (F := Ideal) (up x) (up w) = up fun r i => ∑ k, x r k * w i k := by
  funext j; idx_vars j
  pointwise [k0_pay16, up_ix2]
  simp only [← EReal.coe_mul, coe_sum]

theorem v_dotT' (w : Fin 768 → Fin 1024 → ℝ) : k0_pay21 (F := Ideal) (up x) (up w) = up fun r i => ∑ k, x r k * w i k := by
  funext j; idx_vars j
  pointwise [k0_pay21, up_ix2]
  simp only [← EReal.coe_mul, coe_sum]

theorem v_gate : k0_pay14 (F := Ideal) (up x) (up y) = up fun r i => x r i * sig (x r i) * y r i := by
  funext j; idx_vars j
  pointwise [k0_pay14, up_ix2]
  simp only [← EReal.coe_zero, ← EReal.coe_one, ← EReal.coe_sub, ← EReal.coe_mul, ← EReal.coe_add, Ideal.exp_coe,
    coe_div (one_add_exp_ne _)]
  rfl

theorem v_s0 : k0_pay10 (F := Ideal) (up x) (up fun (_ : Fin 1) => g) (up w) = up fun r i => ∑ k, nrm (x r) k * g k * w i k :=
  (congrArg (k0_pay16 (F := Ideal) · (up w)) (v_f x g)).trans (v_dotT _ w)

theorem v_u0 : k0_pay11 (F := Ideal) (up x) (up fun (_ : Fin 1) => g) (up w) = up fun r i => ∑ k, nrm (x r) k * g k * w i k :=
  v_s0 x g w

theorem v_gate1 : k0_pay20 (F := Ideal) (up x) (up w) (up v)
    = up fun r i => (∑ k, x r k * w i k) * sig (∑ k, x r k * w i k) * ∑ k, x r k * v i k := by
  rw [show k0_pay20 (F := Ideal) (up x) (up w) (up v) = k0_pay14 (k0_pay16 (up x) (up w)) (k0_pay16 (up x) (up v)) from rfl,
    v_dotT, v_dotT, v_gate]

theorem v_gate2 (w v : Fin 768 → Fin 1024 → ℝ) : k0_pay25 (F := Ideal) (up x) (up w) (up v)
    = up fun r i => (∑ k, x r k * w i k) * sig (∑ k, x r k * w i k) * ∑ k, x r k * v i k := by
  funext j; idx_vars j
  pointwise [k0_pay25, v_dotT', show k0_pay22 (F := Ideal) (up x) (up v) = k0_pay21 (up x) (up v) from rfl, up_ix2]
  simp only [← EReal.coe_zero, ← EReal.coe_one, ← EReal.coe_sub, ← EReal.coe_mul, ← EReal.coe_add, Ideal.exp_coe,
    coe_div (one_add_exp_ne _)]
  rfl

theorem v_d0 (a : Fin 256 → Fin 1024 → ℝ) : k0_pay15 (F := Ideal) (up a) (up x) (up y) (up w)
    = up fun r j => a r j + ∑ i, x r i * sig (x r i) * y r i * w i j := by
  funext j; idx_vars j
  pointwise [k0_pay15, v_gate, up_ix2]
  simp only [← EReal.coe_mul, coe_sum, ← EReal.coe_add]

theorem v_d (a b : Fin 256 → Fin 1024 → ℝ) (wg wu wd : Fin 768 → Fin 1024 → ℝ) :
    k0_pay26 (F := Ideal) (up x) (up a) (up b) (up w) (up wg) (up wu) (up wd)
    = up fun r j => a r j + (∑ i, b r i * w i j)
        + ∑ i, (∑ k, x r k * wg i k) * sig (∑ k, x r k * wg i k) * (∑ k, x r k * wu i k) * wd i j := by
  funext j; idx_vars j
  pointwise [k0_pay26, v_gate2, up_ix2]
  simp only [← EReal.coe_mul, coe_sum, ← EReal.coe_add]

theorem v_sq : multiReduction (F := Ideal) .add [1] S256 (mulf (φ := .f32) (up x) (up x)) 0x00000000#32 reduces_S256x1024_S256 (.inl rfl) rfl
    = fun i => ((∑ k, x (i 0) k * x (i 0) k : ℝ) : EReal) := by
  funext j; idx_vars j
  pointwise [up_ix2]
  simp only [← EReal.coe_mul, coe_sum]

/-- The sums of squares of the rows, and the row length, as columns. -/
def sq (x : Fin 256 → Fin 1024 → ℝ) : Fin 256 → Fin 1 → ℝ := fun r _ => ∑ k, x r k * x r k
def len : Fin 256 → Fin 1 → ℝ := fun _ _ => 1024

theorem v_len : k0_pay28 (F := Ideal) = up len := by
  funext j; idx_vars j; pointwise [k0_pay28, up_ix2]; exact word_1024

theorem v_rs4 : k0_pay29 (F := Ideal) (up (sq x)) (up len) = up fun r (_ : Fin 1) => rs (x r) := by
  funext j; idx_vars j
  pointwise [k0_pay29, up_ix2]
  simp only [sq, len, word_eps, ← EReal.coe_mul, ← EReal.coe_add, coe_sum, coe_div (by norm_num : (1024 : ℝ) ≠ 0)]
  exact coe_rsqrt (ms_pos (x j0))

theorem v_dh : k0_pay30 (F := Ideal) (up x) (up (sq x)) (up len) = up fun r => nrm (x r) := by
  funext j; idx_vars j
  pointwise [k0_pay30, v_rs4, up_ix2]
  rw [← EReal.coe_mul]; rfl

theorem v_err : k0_pay31 (F := Ideal) (up y) (up fun (_ : Fin 1) => g) (up x) (up (sq x)) (up len) (up t)
    = up fun r j => y r j + nrm (x r) j * g j - t r j := by
  funext j; idx_vars j
  pointwise [k0_pay31, v_dh, up_ix2]
  simp only [← EReal.coe_mul, ← EReal.coe_add, ← EReal.coe_sub]

/-- The residual of a block, and the gradient of the loss there. -/
def res (y x t : Fin 256 → Fin 1024 → ℝ) (g : Row) : Fin 256 → Fin 1024 → ℝ := fun r j => y r j + nrm (x r) j * g j - t r j

/-- A block of rows added up eight apart, onto what was there. -/
def fold8 (a : Fin 8 → Fin 1024 → ℝ) (b : Fin 256 → Fin 1024 → ℝ) : Fin 8 → Fin 1024 → ℝ :=
  fun e j => a e j + ∑ q : Fin 32, b ⟨q.val * 8 + e.val, by omega⟩ j

theorem v_loss (a : Fin 8 → Fin 1024 → ℝ) :
    k0_pay32 (F := Ideal) (up y) (up fun (_ : Fin 1) => g) (up x) (up (sq x)) (up len) (up t) (up a)
    = up (fold8 a fun r j => res y x t g r j * res y x t g r j) := by
  funext j; idx_vars j
  pointwise [k0_pay32, v_err, up_ix2]
  simp only [← EReal.coe_mul, coe_sum, ← EReal.coe_add]
  rfl

theorem v_dy : k0_pay33 (F := Ideal) (up y) (up fun (_ : Fin 1) => g) (up x) (up (sq x)) (up len) (up t)
    = up fun r j => res y x t g r j * (1 / 1024) := by
  funext j; idx_vars j
  pointwise [k0_pay33, v_err, up_ix2]
  rw [word_inv1024, ← EReal.coe_mul]; rfl

theorem v_dg4 (a : Fin 8 → Fin 1024 → ℝ) :
    k0_pay34 (F := Ideal) (up y) (up fun (_ : Fin 1) => g) (up x) (up (sq x)) (up len) (up t) (up a)
    = up (fold8 a fun r j => res y x t g r j * (1 / 1024) * nrm (x r) j) := by
  funext j; idx_vars j
  pointwise [k0_pay34, v_dy, v_dh, up_ix2]
  simp only [← EReal.coe_mul, coe_sum, ← EReal.coe_add]
  rfl

theorem v_dd : k0_pay35 (F := Ideal) (up y) (up fun (_ : Fin 1) => g) (up x) (up (sq x)) (up len) (up t)
    = up fun r => back (x r) fun j => res y x t g r j * (1 / 1024) * g j := by
  funext j; idx_vars j
  pointwise [k0_pay35, v_dy, v_dh, v_rs4, up_ix2]
  simp only [word_1024, ← EReal.coe_mul, coe_sum, ← EReal.coe_sub, coe_div (by norm_num : (1024 : ℝ) ≠ 0)]
  rfl

theorem v_sig : k0_pay37 (F := Ideal) (up x) = up fun r i => sig (x r i) := by
  funext j; idx_vars j
  pointwise [k0_pay37, up_ix2]
  simp only [← EReal.coe_zero, ← EReal.coe_one, ← EReal.coe_sub, ← EReal.coe_mul, ← EReal.coe_add, Ideal.exp_coe,
    coe_div (one_add_exp_ne _)]
  rfl

/-- The gradients of the gate and of the other factor at one hidden unit. -/
def dgate (c s u : ℝ) : ℝ := c * u * (sig s * (1 + s * (1 - sig s)))
def dup (c s : ℝ) : ℝ := c * (s * sig s)

theorem v_ds0 (s u : Fin 256 → Fin 1024 → ℝ) : k0_pay38 (F := Ideal) (up x) (up w) (up s) (up u)
    = up fun r i => dgate (∑ k, x r k * w i k) (s r i) (u r i) := by
  funext j; idx_vars j
  pointwise [k0_pay38, v_sig, show k0_pay36 (F := Ideal) (up x) (up w) = k0_pay16 (up x) (up w) from rfl, v_dotT, up_ix2]
  simp only [← EReal.coe_one, ← EReal.coe_sub, ← EReal.coe_mul, ← EReal.coe_add]
  rfl

theorem v_du0 (s : Fin 256 → Fin 1024 → ℝ) : k0_pay39 (F := Ideal) (up x) (up w) (up s)
    = up fun r i => dup (∑ k, x r k * w i k) (s r i) := by
  funext j; idx_vars j
  pointwise [k0_pay39, v_sig, show k0_pay36 (F := Ideal) (up x) (up w) = k0_pay16 (up x) (up w) from rfl, v_dotT, up_ix2]
  simp only [← EReal.coe_mul]
  rfl

theorem v_df0 (s u : Fin 256 → Fin 1024 → ℝ) (wd wg wu : Fin 1024 → Fin 1024 → ℝ) :
    k0_pay40 (F := Ideal) (up x) (up wd) (up s) (up u) (up wg) (up wu)
    = up fun r j => 0 + (∑ i, dgate (∑ k, x r k * wd i k) (s r i) (u r i) * wg i j)
        + ∑ i, dup (∑ k, x r k * wd i k) (s r i) * wu i j := by
  funext j; idx_vars j
  pointwise [k0_pay40, v_ds0, v_du0, up_ix2]
  simp only [← EReal.coe_zero, ← EReal.coe_mul, coe_sum, ← EReal.coe_add]

theorem v_df1 (a s u : Fin 256 → Fin 1024 → ℝ) (wd wg wu : Fin 1024 → Fin 1024 → ℝ) :
    k0_pay45 (F := Ideal) (up x) (up a) (up wd) (up s) (up u) (up wg) (up wu)
    = up fun r j => a r j + (∑ i, dgate (∑ k, x r k * wd i k) (s r i) (u r i) * wg i j)
        + ∑ i, dup (∑ k, x r k * wd i k) (s r i) * wu i j := by
  funext j; idx_vars j
  pointwise [k0_pay45, show k0_pay43 (F := Ideal) (up x) (up wd) (up s) (up u) = k0_pay38 (up x) (up wd) (up s) (up u) from rfl,
    show k0_pay44 (F := Ideal) (up x) (up wd) (up s) = k0_pay39 (up x) (up wd) (up s) from rfl, v_ds0, v_du0, up_ix2]
  simp only [← EReal.coe_mul, coe_sum, ← EReal.coe_add]

theorem v_dgg2 (wd : Fin 768 → Fin 1024 → ℝ) : k0_pay46 (F := Ideal) (up x) (up wd) = up fun r i => ∑ k, x r k * wd i k :=
  v_dotT' x wd

theorem v_sig2 (s : Fin 256 → Fin 768 → ℝ) : k0_pay47 (F := Ideal) (up s) = up fun r i => sig (s r i) := by
  funext j; idx_vars j
  pointwise [k0_pay47, up_ix2]
  simp only [← EReal.coe_zero, ← EReal.coe_one, ← EReal.coe_sub, ← EReal.coe_mul, ← EReal.coe_add, Ideal.exp_coe,
    coe_div (one_add_exp_ne _)]
  rfl

theorem v_df (a : Fin 256 → Fin 1024 → ℝ) (c s u : Fin 256 → Fin 768 → ℝ) (wg wu : Fin 768 → Fin 1024 → ℝ) :
    k0_pay50 (F := Ideal) (up a) (up c) (up s) (up u) (up wg) (up wu)
    = up fun r j => a r j + (∑ i, dgate (c r i) (s r i) (u r i) * wg i j) + ∑ i, dup (c r i) (s r i) * wu i j := by
  funext j; idx_vars j
  pointwise [k0_pay50, k0_pay48, k0_pay49, v_sig2, up_ix2]
  simp only [← EReal.coe_one, ← EReal.coe_sub, ← EReal.coe_mul, coe_sum, ← EReal.coe_add]
  rfl

theorem v_dg3 (b : Fin 256 → Fin 1024 → ℝ) (a : Fin 256 → Fin 1024 → ℝ) (c s u : Fin 256 → Fin 768 → ℝ) (wg wu : Fin 768 → Fin 1024 → ℝ) (e : Fin 8 → Fin 1024 → ℝ)
    (h : k0_pay50 (F := Ideal) (up a) (up c) (up s) (up u) (up wg) (up wu) = up b) :
    k0_pay51 (F := Ideal) (up x) (up a) (up c) (up s) (up u) (up wg) (up wu) (up e) = up (fold8 e fun r j => b r j * x r j) := by
  funext j; idx_vars j
  pointwise [k0_pay51, h, up_ix2]
  simp only [← EReal.coe_mul, coe_sum, ← EReal.coe_add]
  rfl

theorem v_dh1 (b dy : Fin 256 → Fin 1024 → ℝ) :
    k0_pay1 (F := Ideal) (up fun r (_ : Fin 1) => rs (x r)) (up fun r => nrm (x r)) (up fun (_ : Fin 1) => g) (up dy) (up b)
    = up fun r j => dy r j + back (x r) (fun j => b r j * g j) j := by
  funext j; idx_vars j
  pointwise [k0_pay1, up_ix2]
  simp only [word_1024, ← EReal.coe_mul, coe_sum, ← EReal.coe_sub, ← EReal.coe_add, coe_div (by norm_num : (1024 : ℝ) ≠ 0)]
  rfl

end values

end Cert.Ffn

end
-- ==== Proof.Ffn.Data.lean ====
module

public import proofs.«01_k».proof.Proof.Ffn.Blocks

/-!
The arguments of the call as real numbers, and every row of them.
-/

@[expose] public section

noncomputable section

namespace Cert.Ffn

open Idealize.ShloMosaic
open scoped BigOperators

/-- A three-axis array of reals read as one of extended reals. -/
def up3 {n k l : ℕ} (x : Fin n → Fin k → Fin l → ℝ) : (⟨3, ![n, k, l]⟩ : Shape).Idx → EReal := fun i => ((x (i 0) (i 1) (i 2) : ℝ) : EReal)

theorem up3_ix3 {n k l : ℕ} (x : Fin n → Fin k → Fin l → ℝ) (a : Fin n) (b : Fin k) (c : Fin l) :
    up3 x (ix3 a b c) = ((x a b c : ℝ) : EReal) := rfl

/-- A sum over the two leading axes of three. -/
theorem sum_lead {n k l : ℕ} (h : (⟨3, ![n, k, l]⟩ : Shape).ReducesTo [0, 1] ⟨1, ![l]⟩)
    (v : (⟨3, ![n, k, l]⟩ : Shape).Idx → EReal) (init : EReal) (c : Fin l) :
    Ideal.hostReduceAdd h v init (ix1 c) = init + ∑ a : Fin n, ∑ b : Fin k, v (ix3 a b c) := by
  refine congrArg (init + ·) ((Finset.sum_filter_eq_sum_of_fiber _ (fun q : Fin n × Fin k => ix3 q.1 q.2 c)
    (fun _ _ e => Prod.ext (congrFun e 0) (congrFun e 1)) (fun i => ⟨fun e => ⟨(i 0, i 1), ?_⟩, ?_⟩) v).trans ?_)
  · funext a; apply Fin.ext
    match a with
    | ⟨0, _⟩ => rfl
    | ⟨1, _⟩ => rfl
    | ⟨2, _⟩ => exact (congrArg Fin.val (congrFun e 0)).symm
  · rintro ⟨q, rfl⟩
    funext b; apply Fin.ext
    match b with
    | ⟨0, _⟩ => rfl
  · simp only [Fintype.sum_prod_type]

theorem one_sub_coe (a : ℝ) : (1 : EReal) - (a : EReal) = ((1 - a : ℝ) : EReal) := by
  rw [EReal.coe_sub, EReal.coe_one]

/-- The residual stream, the target, the two gains, the three weights. -/
structure Data where
  h : Fin 4 → Fin 2048 → Row
  t : Fin 4 → Fin 2048 → Row
  g3 : Row
  wg : Fin 1024 → Fin 2816 → ℝ
  wu : Fin 1024 → Fin 2816 → ℝ
  wd : Wt
  g4 : Row

/-- What position `s` of batch row `b` sees. -/
def Data.p (d : Data) (b : Fin 4) (s : Fin 2048) : Inp := ⟨d.h b s, d.t b s, d.g3, d.g4, fun i k => d.wg k i, fun i k => d.wu k i, d.wd⟩

/-- Row `n` of the call: position `n % 2048` of batch row `n / 2048`. -/
def Data.q (d : Data) (n : Fin 8192) : Inp := d.p ⟨n.val / 2048, by omega⟩ ⟨n.val % 2048, by omega⟩

theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_scale : Ideal.ofBits .f32 0x3A000000#32 = ((1 / 2048 : ℝ) : EReal) := by
  simp [Ideal.ofBits, Ideal.ieee, -EReal.coe_mul]; norm_num

end Cert.Ffn

end
-- ==== Proof.Ffn.Finite.lean ====
module

public import proofs.«01_k».proof.Proof.Ffn.Data
public import proofs.«01_k».proof.Pre_finite
public import Idealize.ShloMosaic.Lib.ReduceAll
public import Idealize.ShloMosaic.Lib.Affine

/-!
What the precondition gives: each argument is an array of real numbers.
-/

@[expose] public section

noncomputable section

namespace Cert.Ffn

open Idealize.ShloMosaic

/-- An extended real below infinity in absolute value is a real number. -/
theorem real_of_abs {a : EReal} (h : max a (-a) < ⊤) : ((a.toReal : ℝ) : EReal) = a := by
  refine EReal.coe_toReal (fun e => ?_) (fun e => ?_)
  · rw [e] at h; simp at h
  · rw [e] at h; simp at h

theorem word_inf : Ideal.ofBits .f32 0x7F800000#32 = (⊤ : EReal) := by simp [Ideal.ofBits, Ideal.ieee]

/-- The test of one array says that each of its elements is a real number. -/
theorem real_of_test {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) (i : s.Idx) : (((x i : EReal).toReal : ℝ) : EReal) = x i := by
  have q := Host.reduce_andi_all _ _ _ _ j e i
  change BitVec.ofBool (decide (max (x i : EReal) (-(x i : EReal)) < Ideal.ofBits .f32 0x7F800000#32)) = 1#1 at q
  rw [word_inf] at q
  refine real_of_abs (of_decide_eq_true ?_)
  revert q
  cases decide (max (x i : EReal) (-(x i : EReal)) < ⊤) <;> decide

variable [Cert.Pre_finite.Facts]
open Cert.Pre_finite Cert.Pre_finite.Facts

theorem real_of_finite (a0 a1 : FVec Ideal S4x2048x1024 .f32) (a2 : FVec Ideal S1x1024 .f32) (a3 a4 : FVec Ideal S1x1024x2816 .f32)
    (a5 : FVec Ideal S1x2816x1024 .f32) (a6 : FVec Ideal S1x1024 .f32) (h : fn (F := Ideal) a0 a1 a2 a3 a4 a5 a6 = fun _ => 1#1) :
    (∀ i, (((a0 i : EReal).toReal : ℝ) : EReal) = a0 i) ∧ (∀ i, (((a1 i : EReal).toReal : ℝ) : EReal) = a1 i) ∧
    (∀ i, (((a2 i : EReal).toReal : ℝ) : EReal) = a2 i) ∧ (∀ i, (((a3 i : EReal).toReal : ℝ) : EReal) = a3 i) ∧
    (∀ i, (((a4 i : EReal).toReal : ℝ) : EReal) = a4 i) ∧ (∀ i, (((a5 i : EReal).toReal : ℝ) : EReal) = a5 i) ∧
    (∀ i, (((a6 i : EReal).toReal : ℝ) : EReal) = a6 i) := by
  have e := congrFun h (fun a => a.elim0)
  unfold fn fn_part1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_test a0 _ _ _ _ e0, real_of_test a1 _ _ _ _ e1, real_of_test a2 _ _ _ _ e2, real_of_test a3 _ _ _ _ e3,
    real_of_test a4 _ _ _ _ e4, real_of_test a5 _ _ _ _ e5, real_of_test a6 _ _ _ _ e6⟩

/-- The arguments as real data. -/
theorem data_of_finite (a0 a1 : FVec Ideal S4x2048x1024 .f32) (a2 : FVec Ideal S1x1024 .f32) (a3 a4 : FVec Ideal S1x1024x2816 .f32)
    (a5 : FVec Ideal S1x2816x1024 .f32) (a6 : FVec Ideal S1x1024 .f32) (h : fn (F := Ideal) a0 a1 a2 a3 a4 a5 a6 = fun _ => 1#1) :
    ∃ d : Data, a0 = up3 d.h ∧ a1 = up3 d.t ∧ (a2 = up fun (_ : Fin 1) => d.g3) ∧ (a3 = up3 fun (_ : Fin 1) => d.wg) ∧
      (a4 = up3 fun (_ : Fin 1) => d.wu) ∧ (a5 = up3 fun (_ : Fin 1) => d.wd) ∧ (a6 = up fun (_ : Fin 1) => d.g4) := by
  obtain ⟨h0, h1, h2, h3, h4, h5, h6⟩ := real_of_finite a0 a1 a2 a3 a4 a5 a6 h
  refine ⟨⟨fun b s k => (a0 (ix3 b s k) : EReal).toReal, fun b s k => (a1 (ix3 b s k) : EReal).toReal, fun k => (a2 (ix2 0 k) : EReal).toReal,
    fun k i => (a3 (ix3 0 k i) : EReal).toReal, fun k i => (a4 (ix3 0 k i) : EReal).toReal, fun i k => (a5 (ix3 0 i k) : EReal).toReal,
    fun k => (a6 (ix2 0 k) : EReal).toReal⟩, ?_, ?_, ?_, ?_, ?_, ?_, ?_⟩
  · funext j; idx_vars j; exact (h0 _).symm
  · funext j; idx_vars j; exact (h1 _).symm
  · funext j; idx_vars j; rw [Subsingleton.elim j0 0]; exact (h2 _).symm
  · funext j; idx_vars j; rw [Subsingleton.elim j0 0]; exact (h3 _).symm
  · funext j; idx_vars j; rw [Subsingleton.elim j0 0]; exact (h4 _).symm
  · funext j; idx_vars j; rw [Subsingleton.elim j0 0]; exact (h5 _).symm
  · funext j; idx_vars j; rw [Subsingleton.elim j0 0]; exact (h6 _).symm

end Cert.Ffn

end
-- ==== Proof.Ffn.Sums.lean ====
module

public import proofs.«01_k».proof.Proof.Ffn.Data

/-!
A column sum kept in eight running rows, point after point, is the sum over all rows.
-/

@[expose] public section

noncomputable section

namespace Cert.Ffn

open Idealize.ShloMosaic
open scoped BigOperators

/-- The eight running rows after point `n`, of the terms `T` of the flat rows. -/
def running (T : ℕ → Row) : ℕ → Fin 8 → Row
  | 0 => fold8 (fun _ _ => 0) fun r => T r.val
  | n + 1 => fold8 (running T n) fun r => T (256 * (n + 1) + r.val)

theorem sum_fold8 (a : Fin 8 → Row) (b : Fin 256 → Row) (j : Fin 1024) : ∑ e, fold8 a b e j = ∑ e, a e j + ∑ r, b r j := by
  unfold fold8
  rw [Finset.sum_add_distrib, Finset.sum_comm]
  refine congrArg _ ?_
  rw [← (finProdFinEquiv : Fin 32 × Fin 8 ≃ Fin (32 * 8)).sum_comp (fun r : Fin (32 * 8) => b r j), Fintype.sum_prod_type]
  refine Finset.sum_congr rfl fun q _ => Finset.sum_congr rfl fun e _ => congrFun (congrArg b (Fin.ext ?_)) j
  show q.val * 8 + e.val = e.val + 8 * q.val
  omega

theorem sum_block (T : ℕ → Row) (n : ℕ) (j : Fin 1024) :
    ∑ k ∈ Finset.range (256 * (n + 1)), T k j = ∑ k ∈ Finset.range (256 * n), T k j + ∑ r : Fin 256, T (256 * n + r.val) j := by
  rw [Nat.mul_add, Finset.sum_range_add, Finset.sum_range (fun i => T (256 * n + i) j)]

theorem sum_running (T : ℕ → Row) (j : Fin 1024) : ∀ n : ℕ, ∑ e, running T n e j = ∑ k ∈ Finset.range (256 * (n + 1)), T k j
  | 0 => by
    rw [sum_block, running, sum_fold8]
    simp
  | n + 1 => by
    rw [sum_block, running, sum_fold8, sum_running T j n]

/-- Flat row `k`. -/
def Data.row (d : Data) (k : ℕ) : Inp := d.p ⟨k / 2048 % 4, Nat.mod_lt _ (by decide)⟩ ⟨k % 2048, Nat.mod_lt _ (by decide)⟩

theorem Data.q_eq (d : Data) (n : Fin 8192) : d.q n = d.row n.val := by
  unfold Data.q Data.row
  congr 1
  apply Fin.ext
  show n.val / 2048 = n.val / 2048 % 4
  omega

/-- The sum over the flat rows, by batch row and position. -/
theorem sum_rows (d : Data) (f : Inp → ℝ) : ∑ k ∈ Finset.range 8192, f (d.row k) = ∑ b, ∑ s, f (d.p b s) := by
  rw [Finset.sum_range (fun k => f (d.row k)), ← (finProdFinEquiv : Fin 4 × Fin 2048 ≃ Fin (4 * 2048)).sum_comp (fun r : Fin (4 * 2048) => f (d.row r.val)), Fintype.sum_prod_type]
  refine Finset.sum_congr rfl fun b _ => Finset.sum_congr rfl fun s _ => congrArg f ?_
  unfold Data.row
  congr 1 <;> apply Fin.ext
  · show (s.val + 2048 * b.val) / 2048 % 4 = b.val
    omega
  · show (s.val + 2048 * b.val) % 2048 = s.val
    omega

/-- A column of the running rows at the end. -/
theorem sum_all (d : Data) (f : Inp → Row) (j : Fin 1024) :
    ∑ e, running (fun k => f (d.row k)) 31 e j = ∑ b, ∑ s, f (d.p b s) j := by
  rw [sum_running]
  exact sum_rows d fun p => f p j

end Cert.Ffn

end
-- ==== Proof.Ffn.Tile.lean ====
/- The values of the body at one tile of 256 rows, each named after the step of the computation that it is. -/
module

public import proofs.«01_k».proof.Proof.Ffn.Blocks

@[expose] public section

set_option maxRecDepth 16384

noncomputable section

namespace Cert.Ffn

open Cert.KernelIdeal Cert.KernelIdeal.Gen
open Idealize.ShloMosaic
open scoped BigOperators

/-- What a tile of rows sees: its rows of the residual stream and of the target, the gains, the weights. -/
structure Tile where
  H : Fin 256 → Row
  T : Fin 256 → Row
  g3 : Row
  g4 : Row
  wg : Wt
  wu : Wt
  wd : Wt

/-- The three parts of a weight that the body takes one after the other. -/
def part0 (w : Wt) : Fin 1024 → Row := fun i => w ⟨i.val, by omega⟩
def part1 (w : Wt) : Fin 1024 → Row := fun i => w ⟨1024 + i.val, by omega⟩
def part2 (w : Wt) : Fin 768 → Row := fun i => w ⟨2048 + i.val, by omega⟩

/-- A sum over the hidden units is the sum over the three parts. -/
theorem sum_parts (f : Hid) : ∑ i, f i = (∑ i : Fin 1024, f ⟨i.val, by omega⟩) + (∑ i : Fin 1024, f ⟨1024 + i.val, by omega⟩)
    + ∑ i : Fin 768, f ⟨2048 + i.val, by omega⟩ := by
  have h1 := Fin.sum_univ_add (M := ℝ) (a := 2048) (b := 768) f
  have h2 := Fin.sum_univ_add (M := ℝ) (a := 1024) (b := 1024) (fun i => f (Fin.castAdd 768 i))
  rw [h2] at h1
  exact h1

namespace Tile
variable (b : Tile)

/-- Row `r` of the tile. -/
def row (r : Fin 256) : Inp := ⟨b.H r, b.T r, b.g3, b.g4, b.wg, b.wu, b.wd⟩

def G3 : Fin 1 → Row := fun _ => b.g3
def G4 : Fin 1 → Row := fun _ => b.g4
def HH : Fin 256 → Row := fun r => nrm (b.H r)
def RS : Fin 256 → Fin 1 → ℝ := fun r _ => rs (b.H r)
def F : Fin 256 → Row := fun r => (b.row r).f
def S0 : Fin 256 → Fin 1024 → ℝ := fun r i => (b.row r).s ⟨i.val, by omega⟩
def S1 : Fin 256 → Fin 1024 → ℝ := fun r i => (b.row r).s ⟨1024 + i.val, by omega⟩
def S2 : Fin 256 → Fin 768 → ℝ := fun r i => (b.row r).s ⟨2048 + i.val, by omega⟩
def U0 : Fin 256 → Fin 1024 → ℝ := fun r i => (b.row r).u ⟨i.val, by omega⟩
def U1 : Fin 256 → Fin 1024 → ℝ := fun r i => (b.row r).u ⟨1024 + i.val, by omega⟩
def U2 : Fin 256 → Fin 768 → ℝ := fun r i => (b.row r).u ⟨2048 + i.val, by omega⟩
def GG1 : Fin 256 → Fin 1024 → ℝ := fun r i => (b.row r).gg ⟨1024 + i.val, by omega⟩
def D0 : Fin 256 → Row := fun r j => 0 + ∑ i : Fin 1024, (b.row r).gg ⟨i.val, by omega⟩ * part0 b.wd i j
def D : Fin 256 → Row := fun r => (b.row r).d
def DH : Fin 256 → Row := fun r => (b.row r).dh
def DY : Fin 256 → Row := fun r => (b.row r).dy
def DD : Fin 256 → Row := fun r => (b.row r).dd
def C2 : Fin 256 → Fin 768 → ℝ := fun r i => (b.row r).dgg ⟨2048 + i.val, by omega⟩
def DF0 : Fin 256 → Row := fun r j => 0 + (∑ i : Fin 1024, (b.row r).ds ⟨i.val, by omega⟩ * part0 b.wg i j)
    + ∑ i : Fin 1024, (b.row r).du ⟨i.val, by omega⟩ * part0 b.wu i j
def DF1 : Fin 256 → Row := fun r j => b.DF0 r j + (∑ i : Fin 1024, (b.row r).ds ⟨1024 + i.val, by omega⟩ * part1 b.wg i j)
    + ∑ i : Fin 1024, (b.row r).du ⟨1024 + i.val, by omega⟩ * part1 b.wu i j
def DF : Fin 256 → Row := fun r => (b.row r).df
def DH1 : Fin 256 → Row := fun r => (b.row r).dh1

theorem t_hh : k0_pay7 (F := Ideal) (up b.H) = up b.HH := v_nrm _
theorem t_rs : k0_pay6 (F := Ideal) (up b.H) = up b.RS := v_rs _
theorem t_f : k0_pay8 (F := Ideal) (up b.H) (up b.G3) = up b.F := v_f _ _
theorem t_s0 : k0_pay10 (F := Ideal) (up b.H) (up b.G3) (up (part0 b.wg)) = up b.S0 := v_s0 _ _ _
theorem t_u0 : k0_pay11 (F := Ideal) (up b.H) (up b.G3) (up (part0 b.wu)) = up b.U0 := v_u0 _ _ _
theorem t_s0' : k0_pay12 (F := Ideal) (up b.H) (up b.G3) (up (part0 b.wg)) = up b.S0 :=
  (shapeCast_self _ _).trans b.t_s0
theorem t_u0' : k0_pay13 (F := Ideal) (up b.H) (up b.G3) (up (part0 b.wu)) = up b.U0 :=
  (shapeCast_self _ _).trans b.t_u0
theorem t_s1 : k0_pay16 (F := Ideal) (up b.F) (up (part1 b.wg)) = up b.S1 := v_dotT _ _
theorem t_u1 : k0_pay17 (F := Ideal) (up b.F) (up (part1 b.wu)) = up b.U1 := v_dotT _ _
theorem t_s1' : k0_pay18 (F := Ideal) (up b.F) (up (part1 b.wg)) = up b.S1 := (shapeCast_self _ _).trans b.t_s1
theorem t_u1' : k0_pay19 (F := Ideal) (up b.F) (up (part1 b.wu)) = up b.U1 := (shapeCast_self _ _).trans b.t_u1
theorem t_s2 : k0_pay21 (F := Ideal) (up b.F) (up (part2 b.wg)) = up b.S2 := v_dotT' _ _
theorem t_u2 : k0_pay22 (F := Ideal) (up b.F) (up (part2 b.wu)) = up b.U2 := v_dotT' _ _
theorem t_s2' : k0_pay23 (F := Ideal) (up b.F) (up (part2 b.wg)) = up b.S2 := (shapeCast_self _ _).trans b.t_s2
theorem t_u2' : k0_pay24 (F := Ideal) (up b.F) (up (part2 b.wu)) = up b.U2 := (shapeCast_self _ _).trans b.t_u2
theorem t_gg1 : k0_pay20 (F := Ideal) (up b.F) (up (part1 b.wg)) (up (part1 b.wu)) = up b.GG1 := v_gate1 _ _ _
theorem t_d0 : k0_pay15 (F := Ideal) k0_pay9 (up b.S0) (up b.U0) (up (part0 b.wd)) = up b.D0 := by
  rw [v_zero]; exact v_d0 _ _ _ _
theorem t_d : k0_pay26 (F := Ideal) (up b.F) (up b.D0) (up b.GG1) (up (part1 b.wd)) (up (part2 b.wg)) (up (part2 b.wu)) (up (part2 b.wd))
    = up b.D := by
  rw [v_d]; congr 1; funext r j
  show _ = ∑ i, (b.row r).gg i * b.wd i j
  rw [sum_parts, ← zero_add (∑ i : Fin 1024, (b.row r).gg ⟨i.val, _⟩ * _)]
  rfl
theorem t_sq : k0_pay27 (F := Ideal) (up b.F) (up b.D0) (up b.GG1) (up (part1 b.wd)) (up (part2 b.wg)) (up (part2 b.wu)) (up (part2 b.wd))
    = up (sq b.D) := by
  funext j; idx_vars j
  pointwise [k0_pay27, t_d, up_ix2]
  simp only [← EReal.coe_mul, coe_sum]
  rfl
theorem t_dh : k0_pay30 (F := Ideal) (up b.D) (up (sq b.D)) (up len) = up b.DH := v_dh _
theorem t_dy : k0_pay33 (F := Ideal) (up b.H) (up b.G4) (up b.D) (up (sq b.D)) (up len) (up b.T) = up b.DY := v_dy _ _ _ _
theorem t_loss (a : Fin 8 → Row) : k0_pay32 (F := Ideal) (up b.H) (up b.G4) (up b.D) (up (sq b.D)) (up len) (up b.T) (up a)
    = up (fold8 a fun r j => (b.row r).err j * (b.row r).err j) := v_loss _ _ _ _ _
theorem t_dg4 (a : Fin 8 → Row) : k0_pay34 (F := Ideal) (up b.H) (up b.G4) (up b.D) (up (sq b.D)) (up len) (up b.T) (up a)
    = up (fold8 a fun r j => (b.row r).dy j * (b.row r).dh j) := v_dg4 _ _ _ _ _
theorem t_dd : k0_pay35 (F := Ideal) (up b.H) (up b.G4) (up b.D) (up (sq b.D)) (up len) (up b.T) = up b.DD := v_dd _ _ _ _
theorem t_df0 : k0_pay40 (F := Ideal) (up b.DD) (up (part0 b.wd)) (up b.S0) (up b.U0) (up (part0 b.wg)) (up (part0 b.wu)) = up b.DF0 :=
  v_df0 _ _ _ _ _ _
theorem t_df1 : k0_pay45 (F := Ideal) (up b.DD) (up b.DF0) (up (part1 b.wd)) (up b.S1) (up b.U1) (up (part1 b.wg)) (up (part1 b.wu)) = up b.DF1 :=
  v_df1 _ _ _ _ _ _ _
theorem t_c2 : k0_pay46 (F := Ideal) (up b.DD) (up (part2 b.wd)) = up b.C2 := v_dgg2 _ _
theorem t_df : k0_pay50 (F := Ideal) (up b.DF1) (up b.C2) (up b.S2) (up b.U2) (up (part2 b.wg)) (up (part2 b.wu)) = up b.DF := by
  rw [v_df]; congr 1; funext r j
  show _ = (∑ i, (b.row r).ds i * b.wg i j) + ∑ i, (b.row r).du i * b.wu i j
  rw [sum_parts (fun i => (b.row r).ds i * b.wg i j), sum_parts (fun i => (b.row r).du i * b.wu i j)]
  unfold DF1 DF0
  have e : ∀ a c d e f g : ℝ, 0 + a + d + c + e + f + g = a + c + f + (d + e + g) := fun _ _ _ _ _ _ => by ring
  exact e _ _ _ _ _ _
theorem t_dg3 (a : Fin 8 → Row) : k0_pay51 (F := Ideal) (up b.HH) (up b.DF1) (up b.C2) (up b.S2) (up b.U2) (up (part2 b.wg)) (up (part2 b.wu)) (up a)
    = up (fold8 a fun r j => (b.row r).df j * nrm (b.row r).h j) := v_dg3 _ _ _ _ _ _ _ _ _ b.t_df
theorem t_dh1 : k0_pay1 (F := Ideal) (up b.RS) (up b.HH) (up b.G3) (up b.DY) (up b.DF) = up b.DH1 := v_dh1 _ _ _ _
theorem t_zero2 : k0_pay2 (F := Ideal) = up fun (_ : Fin 8) (_ : Fin 1024) => 0 := by
  funext j; idx_vars j; pointwise [k0_pay2, up_ix2]; rfl

end Tile

end Cert.Ffn

end
-- ==== Proof.Ffn.Opening.lean ====
/- What a point of the launch leaves, from what its blocks and what it takes over from the point before are: the stores of the
   run read back, their values those of the tile. -/
module

public import proofs.«01_k».proof.Proof.Ffn.Tile
public import Idealize.ShloMosaic.Lib.Pipeline.Value
public import proofs.«01_k».proof.Proof.Ffn.Steps

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Ffn
variable (m : (ℓ : Loc nD τ sig) → Buf (Elt Ideal) ℓ)
theorem hz : (![0, 0] : Fin 2 → Nat) = fun _ => 0 := funext fun a => by fin_cases a <;> rfl

theorem ld_part0 (w : Wt) (inb) :
    View.ld (Val := Elt Ideal) (S := S2816x1024) (e' := EltTy.bf16) (up w) (Rect.unit (s := S2816x1024) ![0, 0] ![1024, 1024] inb) = up (part0 w) := by
  funext j
  show ((w _ _ : ℝ) : EReal) = ((w _ _ : ℝ) : EReal)
  congr 2 <;> apply Fin.ext
  · show 0 + 1 * (j 0).val = (j 0).val; omega
  · show 0 + 1 * _ = _; omega
theorem ld_part1 (w : Wt) (inb) :
    View.ld (Val := Elt Ideal) (S := S2816x1024) (e' := EltTy.bf16) (up w) (Rect.unit (s := S2816x1024) ![1024, 0] ![1024, 1024] inb) = up (part1 w) := by
  funext j
  show ((w _ _ : ℝ) : EReal) = ((w _ _ : ℝ) : EReal)
  congr 2 <;> apply Fin.ext
  · show 1024 + 1 * _ = 1024 + _; omega
  · show 0 + 1 * _ = _; omega
theorem ld_part2 (w : Wt) (inb) :
    View.ld (Val := Elt Ideal) (S := S2816x1024) (e' := EltTy.bf16) (up w) (Rect.unit (s := S2816x1024) ![2048, 0] ![768, 1024] inb) = up (part2 w) := by
  funext j
  show ((w _ _ : ℝ) : EReal) = ((w _ _ : ℝ) : EReal)
  congr 2 <;> apply Fin.ext
  · show 2048 + 1 * _ = 2048 + _; omega
  · show 0 + 1 * _ = _; omega

/-- A weight's four parts of 704 rows, as the copies bring them. -/
def quarter (k : ℕ) (w : Wt) : Fin 704 → Row := fun i => w ⟨(704 * k + i.val) % 2816, by omega⟩

/-- A weight as an array of four parts. -/
def up4 (w : Wt) : (⟨3, ![4, 704, 1024]⟩ : Shape).Idx → EReal := fun i => ((quarter (i 0).val w (i 1) (i 2) : ℝ) : EReal)

theorem drop_one (x : (⟨3, ![1, 704, 1024]⟩ : Shape).Idx → EReal) (hc : S1x704x1024.ShapeCasts S704x1024) (a : Fin 704) (b : Fin 1024) :
    shapeCast S704x1024 x hc (ix2 a b) = x (ix3 0 a b) := by
  pointwise

/-- A part of a weight read from the array of four, through the view the copy takes. -/
theorem ld_quarter (w : Wt) (k : ℕ) (hk : k < 4) (i) (hc : S1x704x1024.ShapeCasts S704x1024) :
    shapeCast S704x1024 (View.ld (Val := Elt Ideal) (S := S4x704x1024) (e' := EltTy.bf16) (up4 w) (Rect.unit (s := S4x704x1024) ![k, 0, 0] ![1, 704, 1024] i)) hc = up (quarter k w) := by
  funext j
  idx_vars j
  rw [up_ix2]
  refine (drop_one _ hc _ _).trans ?_
  refine congrArg (fun r : ℝ => (r : EReal)) (congrArg₂ w (Fin.ext ?_) (Fin.ext ?_))
  · show (704 * (k + 1 * 0) + (0 + 1 * j0.val)) % 2816 = (704 * k + j0.val) % 2816; omega
  · show 0 + 1 * j1.val = j1.val; omega

theorem copy8 (w : Wt) (k : ℕ) (hk : k < 4) (x : Vec Ideal S4x704x1024 .bf16) (hx : x = up4 w) (a c) :
    View.read (Elt Ideal) (((View.whole main_v8).slice (Rect.unit ![k, 0, 0] ![1, 704, 1024] a)).reshape S704x1024 c) x = up (quarter k w) := by
  subst hx
  exact ld_quarter w k hk _ (by decide)

theorem copy9 (w : Wt) (k : ℕ) (hk : k < 4) (x : Vec Ideal S4x704x1024 .bf16) (hx : x = up4 w) (a c) :
    View.read (Elt Ideal) (((View.whole main_v9).slice (Rect.unit ![k, 0, 0] ![1, 704, 1024] a)).reshape S704x1024 c) x = up (quarter k w) := by
  subst hx
  exact ld_quarter w k hk _ (by decide)

theorem copy10 (w : Wt) (k : ℕ) (hk : k < 4) (x : Vec Ideal S4x704x1024 .bf16) (hx : x = up4 w) (a c) :
    View.read (Elt Ideal) (((View.whole main_v10).slice (Rect.unit ![k, 0, 0] ![1, 704, 1024] a)).reshape S704x1024 c) x = up (quarter k w) := by
  subst hx
  exact ld_quarter w k hk _ (by decide)

theorem copy14 (x y : Vec Ideal S704x1024 .bf16) (h : x = y) : View.read (Elt Ideal) (View.whole main_v14) x = y := h
theorem copy16 (x y : Vec Ideal S704x1024 .bf16) (h : x = y) : View.read (Elt Ideal) (View.whole main_v16) x = y := h
theorem copy18 (x y : Vec Ideal S704x1024 .bf16) (h : x = y) : View.read (Elt Ideal) (View.whole main_v18) x = y := h

/-- A copy moves what it reads. -/
theorem same_apply {s : Shape} {e : EltTy} (f : s.Idx → Elt Ideal e) : ReadAs.same.apply f = f := rfl

/-- The four copies into the scratch of a weight cover it. -/
theorem canon_quarters (w : Wt) (i3 i2 i1 i0) :
    View.canon (Val := Elt Ideal) (s := S2816x1024) (e := .bf16) [⟨Rect.unit (s := S2816x1024) ![2112, 0] ![704, 1024] i3, up (quarter 3 w)⟩, ⟨Rect.unit (s := S2816x1024) ![1408, 0] ![704, 1024] i2, up (quarter 2 w)⟩,
      ⟨Rect.unit (s := S2816x1024) ![704, 0] ![704, 1024] i1, up (quarter 1 w)⟩, ⟨Rect.unit (s := S2816x1024) ![0, 0] ![704, 1024] i0, up (quarter 0 w)⟩] = up w := by
  funext y
  refine View.canon_apply_of_pieces (Val := Elt Ideal) (S := S2816x1024) (e := .bf16) (up w) _ ?_ y ?_
  · intro p hp
    simp only [List.mem_cons, List.not_mem_nil, or_false] at hp
    rcases hp with rfl | rfl | rfl | rfl <;> intro x <;>
      refine congrArg (fun r : ℝ => (r : EReal)) (congrArg₂ w (Fin.ext ?_) (Fin.ext ?_))
    · have : (x 0).val < 704 := (x 0).isLt; show (704 * 3 + (x 0).val) % 2816 = 2112 + 1 * (x 0).val; omega
    · show (x 1).val = 0 + 1 * (x 1).val; omega
    · have : (x 0).val < 704 := (x 0).isLt; show (704 * 2 + (x 0).val) % 2816 = 1408 + 1 * (x 0).val; omega
    · show (x 1).val = 0 + 1 * (x 1).val; omega
    · have : (x 0).val < 704 := (x 0).isLt; show (704 * 1 + (x 0).val) % 2816 = 704 + 1 * (x 0).val; omega
    · show (x 1).val = 0 + 1 * (x 1).val; omega
    · have : (x 0).val < 704 := (x 0).isLt; show (704 * 0 + (x 0).val) % 2816 = 0 + 1 * (x 0).val; omega
    · show (x 1).val = 0 + 1 * (x 1).val; omega
  · have h0 : (y 0).val < 2816 := (y 0).isLt
    have h1 : (y 1).val < 1024 := (y 1).isLt
    have key : ∀ (o : ℕ) (i), o ≤ (y 0).val → (y 0).val < o + 704 → y ∈ (Rect.unit (s := S2816x1024) ![o, 0] ![704, 1024] i).set := by
      intro o i ha hb
      rw [Rect.mem_set_unit]
      intro a
      fin_cases a
      · exact ⟨ha, hb⟩
      · exact ⟨Nat.zero_le _, by show (y 1).val < 0 + 1024; omega⟩
    rcases lt_or_ge (y 0).val 704 with a | a
    · exact ⟨_, List.mem_cons_of_mem _ (List.mem_cons_of_mem _ (List.mem_cons_of_mem _ List.mem_cons_self)), key 0 i0 (by omega) (by omega)⟩
    rcases lt_or_ge (y 0).val 1408 with b | b
    · exact ⟨_, List.mem_cons_of_mem _ (List.mem_cons_of_mem _ List.mem_cons_self), key 704 i1 (by omega) (by omega)⟩
    rcases lt_or_ge (y 0).val 2112 with d | d
    · exact ⟨_, List.mem_cons_of_mem _ List.mem_cons_self, key 1408 i2 (by omega) (by omega)⟩
    · exact ⟨_, List.mem_cons_self, key 2112 i3 (by omega) (by omega)⟩

/-- The three stores into a scratch of one value for each row and hidden unit, read back one by one. -/
theorem cov2 (v : View sig .tc .vmem S256x2816 .f32) (i2 i1 i0) (a : (Rect.unit (s := S256x2816) ![0, 2048] ![256, 768] i2).shape.Idx → Elt Ideal .f32) (b : (Rect.unit (s := S256x2816) ![0, 1024] ![256, 1024] i1).shape.Idx → Elt Ideal .f32) (c : (Rect.unit (s := S256x2816) ![0, 0] ![256, 1024] i0).shape.Idx → Elt Ideal .f32) :
    v.readCov (Val := Elt Ideal) [⟨Rect.unit (s := S256x2816) ![0, 2048] ![256, 768] i2, a⟩, ⟨Rect.unit (s := S256x2816) ![0, 1024] ![256, 1024] i1, b⟩, ⟨Rect.unit (s := S256x2816) ![0, 0] ![256, 1024] i0, c⟩]
      (Rect.unit (s := S256x2816) ![0, 2048] ![256, 768] i2).toLoadRect = a :=
  View.readCov_cons_toLoadRect ..
theorem apart (o n o' n' : ℕ) (i i') (h : o' + n' ≤ o) :
    Disjoint (Rect.unit (s := S256x2816) ![0, o] ![256, n] i).set (Rect.unit (s := S256x2816) ![0, o'] ![256, n'] i').set :=
  Rect.unit_disjoint (s := S256x2816) (off := ![0, o]) (size := ![256, n]) (off' := ![0, o']) (size' := ![256, n']) (inb := i) (inb' := i') 1 (.inr h)
theorem cov1 (v : View sig .tc .vmem S256x2816 .f32) (i2 i1 i0) (a : (Rect.unit (s := S256x2816) ![0, 2048] ![256, 768] i2).shape.Idx → Elt Ideal .f32) (b : (Rect.unit (s := S256x2816) ![0, 1024] ![256, 1024] i1).shape.Idx → Elt Ideal .f32) (c : (Rect.unit (s := S256x2816) ![0, 0] ![256, 1024] i0).shape.Idx → Elt Ideal .f32) :
    v.readCov (Val := Elt Ideal) [⟨Rect.unit (s := S256x2816) ![0, 2048] ![256, 768] i2, a⟩, ⟨Rect.unit (s := S256x2816) ![0, 1024] ![256, 1024] i1, b⟩, ⟨Rect.unit (s := S256x2816) ![0, 0] ![256, 1024] i0, c⟩]
      (Rect.unit (s := S256x2816) ![0, 1024] ![256, 1024] i1).toLoadRect = b := by
  rw [View.readCov_cons_of_disjoint]
  · exact View.readCov_cons_toLoadRect ..
  · exact apart 2048 768 1024 1024 i2 i1 (by decide)
theorem cov0 (v : View sig .tc .vmem S256x2816 .f32) (i2 i1 i0) (a : (Rect.unit (s := S256x2816) ![0, 2048] ![256, 768] i2).shape.Idx → Elt Ideal .f32) (b : (Rect.unit (s := S256x2816) ![0, 1024] ![256, 1024] i1).shape.Idx → Elt Ideal .f32) (c : (Rect.unit (s := S256x2816) ![0, 0] ![256, 1024] i0).shape.Idx → Elt Ideal .f32) :
    v.readCov (Val := Elt Ideal) [⟨Rect.unit (s := S256x2816) ![0, 2048] ![256, 768] i2, a⟩, ⟨Rect.unit (s := S256x2816) ![0, 1024] ![256, 1024] i1, b⟩, ⟨Rect.unit (s := S256x2816) ![0, 0] ![256, 1024] i0, c⟩]
      (Rect.unit (s := S256x2816) ![0, 0] ![256, 1024] i0).toLoadRect = c := by
  rw [View.readCov_cons_of_disjoint, View.readCov_cons_of_disjoint]
  · exact View.readCov_cons_toLoadRect ..
  · exact apart 1024 1024 0 1024 i1 i0 (by decide)
  · exact apart 2048 768 0 1024 i2 i0 (by decide)

/-- The scratch of a weight, filled by the four copies, read part by part. -/
theorem rd_part0 (w : Wt) (v : View sig .tc .vmem S2816x1024 .bf16) (i3 i2 i1 i0 inb) :
    v.readCov (Val := Elt Ideal) [⟨Rect.unit (s := S2816x1024) ![2112, 0] ![704, 1024] i3, up (quarter 3 w)⟩, ⟨Rect.unit (s := S2816x1024) ![1408, 0] ![704, 1024] i2, up (quarter 2 w)⟩,
      ⟨Rect.unit (s := S2816x1024) ![704, 0] ![704, 1024] i1, up (quarter 1 w)⟩, ⟨Rect.unit (s := S2816x1024) ![0, 0] ![704, 1024] i0, up (quarter 0 w)⟩]
      (Rect.unit (s := S2816x1024) ![0, 0] ![1024, 1024] inb).toLoadRect = up (part0 w) := by
  rw [View.readCov_eq_canon', canon_quarters]; exact ld_part0 w inb
theorem rd_part1 (w : Wt) (v : View sig .tc .vmem S2816x1024 .bf16) (i3 i2 i1 i0 inb) :
    v.readCov (Val := Elt Ideal) [⟨Rect.unit (s := S2816x1024) ![2112, 0] ![704, 1024] i3, up (quarter 3 w)⟩, ⟨Rect.unit (s := S2816x1024) ![1408, 0] ![704, 1024] i2, up (quarter 2 w)⟩,
      ⟨Rect.unit (s := S2816x1024) ![704, 0] ![704, 1024] i1, up (quarter 1 w)⟩, ⟨Rect.unit (s := S2816x1024) ![0, 0] ![704, 1024] i0, up (quarter 0 w)⟩]
      (Rect.unit (s := S2816x1024) ![1024, 0] ![1024, 1024] inb).toLoadRect = up (part1 w) := by
  rw [View.readCov_eq_canon', canon_quarters]; exact ld_part1 w inb
theorem rd_part2 (w : Wt) (v : View sig .tc .vmem S2816x1024 .bf16) (i3 i2 i1 i0 inb) :
    v.readCov (Val := Elt Ideal) [⟨Rect.unit (s := S2816x1024) ![2112, 0] ![704, 1024] i3, up (quarter 3 w)⟩, ⟨Rect.unit (s := S2816x1024) ![1408, 0] ![704, 1024] i2, up (quarter 2 w)⟩,
      ⟨Rect.unit (s := S2816x1024) ![704, 0] ![704, 1024] i1, up (quarter 1 w)⟩, ⟨Rect.unit (s := S2816x1024) ![0, 0] ![704, 1024] i0, up (quarter 0 w)⟩]
      (Rect.unit (s := S2816x1024) ![2048, 0] ![768, 1024] inb).toLoadRect = up (part2 w) := by
  rw [View.readCov_eq_canon', canon_quarters]; exact ld_part2 w inb

theorem t_zero3 : k0_pay3 (F := Ideal) = up fun (_ : Fin 8) (_ : Fin 1024) => 0 := by
  funext j; idx_vars j; pointwise [k0_pay3, up_ix2]; rfl
theorem t_zero4 : k0_pay4 (F := Ideal) = up fun (_ : Fin 8) (_ : Fin 1024) => 0 := by
  funext j; idx_vars j; pointwise [k0_pay4, up_ix2]; rfl

/-- What a point leaves that the claim speaks of: the gradient's rows, and the three accumulators. -/
def Leaves (b : Tile) (a1 a2 a3 : Fin 8 → Row) (p : Left Ideal) : Prop :=
  p.1 = up b.DH1 ∧ p.2.2.2.2.2.2.1 = up (fold8 a1 fun r j => (b.row r).err j * (b.row r).err j)
    ∧ p.2.2.2.2.2.2.2.1 = up (fold8 a2 fun r j => (b.row r).df j * nrm (b.row r).h j)
    ∧ p.2.2.2.2.2.2.2.2.1 = up (fold8 a3 fun r j => (b.row r).dy j * (b.row r).dh j)

end Cert.KernelIdeal.Ffn
end
-- ==== Proof.Ffn.Points.lean ====
/- What a point of the launch leaves, from what its blocks and what it takes over from the point before are: the stores of the
   run read back, their values those of the tile. -/
module

public import proofs.«01_k».proof.Proof.Ffn.Opening
public import Idealize.ShloMosaic.Lib.Pipeline.Value
public import proofs.«01_k».proof.Proof.Ffn.Steps

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Ffn
variable (m : (ℓ : Loc nD τ sig) → Buf (Elt Ideal) ℓ)
set_option maxHeartbeats 2000000 in
theorem stepB_left (b : Tile) (c : Dev nD) (t : Fin cfg0.N) (h0 : ¬t.val % 32 = 0) (p : Left Ideal) (a1 a2 a3 : Fin 8 → Row)
    (hH : iblk m c 0 t = up b.H) (hT : iblk m c 1 t = up b.T) (hg3 : iblk m c 2 t = up b.G3) (hg4 : iblk m c 3 t = up b.G4)
    (hwg : p.2.2.2.2.2.2.2.2.2.1 = up b.wg) (hwu : p.2.2.2.2.2.2.2.2.2.2.1 = up b.wu) (hwd : p.2.2.2.2.2.2.2.2.2.2.2 = up b.wd)
    (h1 : p.2.2.2.2.2.2.1 = up a1) (h2 : p.2.2.2.2.2.2.2.1 = up a2) (h3 : p.2.2.2.2.2.2.2.2.1 = up a3) :
    Leaves b a1 a2 a3 (stepB m c t h0 p) := by
  have r0 : ∀ (x : Vec Ideal S2816x1024 .bf16), View.read (Elt Ideal) (View.whole cc0_scratch0) ((Memref.isWhole_whole cc0_scratch0).unread x) = x := (Memref.isWhole_whole cc0_scratch0).read_unread
  have r1 : ∀ (x : Vec Ideal S2816x1024 .bf16), View.read (Elt Ideal) (View.whole cc0_scratch1) ((Memref.isWhole_whole cc0_scratch1).unread x) = x := (Memref.isWhole_whole cc0_scratch1).read_unread
  have r2 : ∀ (x : Vec Ideal S2816x1024 .bf16), View.read (Elt Ideal) (View.whole cc0_scratch2) ((Memref.isWhole_whole cc0_scratch2).unread x) = x := (Memref.isWhole_whole cc0_scratch2).read_unread
  unfold Leaves stepB
  dsimp only
  refine ⟨(View.read_writes_eq_canon _ _ _ (coverB_4 m c t h0 p)).trans ?_, (View.read_writes_eq_canon _ _ _ (coverB_10 m c t h0 p)).trans ?_,
    (View.read_writes_eq_canon _ _ _ (coverB_11 m c t h0 p)).trans ?_, (View.read_writes_eq_canon _ _ _ (coverB_12 m c t h0 p)).trans ?_⟩
  all_goals
    unfold runB bodyB
    dsimp only
    sl_unfold_words
    rw [View.canon_unit_zero hz]
    simp only [View.readAt_eq_ld, (hs0_0 t).read_unread, (hs0_1 t).read_unread, (hs0_2 t).read_unread, (hs0_3 t).read_unread,
      (hs0_10 t).read_unread, (hs0_11 t).read_unread, (hs0_12 t).read_unread, r0, r1, r2, h1, h2, h3]
    simp only [View.ld_unit_zero (S := S8x1024) hz, View.ld_unit_zero (S := S256x1024) hz, View.ld_unit_zero (S := S1x1024) hz]
    simp only [hH, hT, hg3, hg4, hwg, hwu, hwd, ld_part0, ld_part1, ld_part2]
    simp only [v_h, b.t_hh, b.t_rs, b.t_f, b.t_s0, b.t_s0', b.t_u0, b.t_u0', b.t_s1, b.t_s1', b.t_u1, b.t_u1', b.t_s2, b.t_s2', b.t_u2, b.t_u2', b.t_gg1, b.t_d0,
      b.t_d, b.t_sq, v_len]
    simp only [b.t_dh, b.t_dy, b.t_dd, cov2, cov1, cov0, b.t_df0, b.t_df1, b.t_c2, b.t_df, b.t_dh1, b.t_loss, b.t_dg3, b.t_dg4]

set_option maxHeartbeats 2000000 in
/-- The first point: the copies bring the weights, the accumulators start at zero. -/
theorem stepA_left (b : Tile) (c : Dev nD) (t : Fin cfg0.N) (h0 : t.val % 32 = 0)
    (hH : iblk m c 0 t = up b.H) (hT : iblk m c 1 t = up b.T) (hg3 : iblk m c 2 t = up b.G3) (hg4 : iblk m c 3 t = up b.G4)
    (h8 : V m c main_v8 = up4 b.wg) (h9 : V m c main_v9 = up4 b.wu) (h10 : V m c main_v10 = up4 b.wd)
    (h14 : V m c main_v14 = up (quarter 0 b.wg)) (h16 : V m c main_v16 = up (quarter 0 b.wu)) (h18 : V m c main_v18 = up (quarter 0 b.wd)) :
    Leaves b (fun _ _ => 0) (fun _ _ => 0) (fun _ _ => 0) (stepA m c t h0)
      ∧ (stepA m c t h0).2.2.2.2.2.2.2.2.2.1 = up b.wg ∧ (stepA m c t h0).2.2.2.2.2.2.2.2.2.2.1 = up b.wu
      ∧ (stepA m c t h0).2.2.2.2.2.2.2.2.2.2.2 = up b.wd := by
  have c14 : View.read (Elt Ideal) (View.whole main_v14) (V m c main_v14) = up (quarter 0 b.wg) := copy14 _ _ h14
  have c16 : View.read (Elt Ideal) (View.whole main_v16) (V m c main_v16) = up (quarter 0 b.wu) := copy16 _ _ h16
  have c18 : View.read (Elt Ideal) (View.whole main_v18) (V m c main_v18) = up (quarter 0 b.wd) := copy18 _ _ h18
  have c81 : ∀ a e, View.read (Elt Ideal) (((View.whole main_v8).slice (Rect.unit ![1, 0, 0] ![1, 704, 1024] a)).reshape S704x1024 e) (V m c main_v8)
      = up (quarter 1 b.wg) := copy8 b.wg 1 (by decide) _ h8
  have c82 : ∀ a e, View.read (Elt Ideal) (((View.whole main_v8).slice (Rect.unit ![2, 0, 0] ![1, 704, 1024] a)).reshape S704x1024 e) (V m c main_v8)
      = up (quarter 2 b.wg) := copy8 b.wg 2 (by decide) _ h8
  have c83 : ∀ a e, View.read (Elt Ideal) (((View.whole main_v8).slice (Rect.unit ![3, 0, 0] ![1, 704, 1024] a)).reshape S704x1024 e) (V m c main_v8)
      = up (quarter 3 b.wg) := copy8 b.wg 3 (by decide) _ h8
  have c91 : ∀ a e, View.read (Elt Ideal) (((View.whole main_v9).slice (Rect.unit ![1, 0, 0] ![1, 704, 1024] a)).reshape S704x1024 e) (V m c main_v9)
      = up (quarter 1 b.wu) := copy9 b.wu 1 (by decide) _ h9
  have c92 : ∀ a e, View.read (Elt Ideal) (((View.whole main_v9).slice (Rect.unit ![2, 0, 0] ![1, 704, 1024] a)).reshape S704x1024 e) (V m c main_v9)
      = up (quarter 2 b.wu) := copy9 b.wu 2 (by decide) _ h9
  have c93 : ∀ a e, View.read (Elt Ideal) (((View.whole main_v9).slice (Rect.unit ![3, 0, 0] ![1, 704, 1024] a)).reshape S704x1024 e) (V m c main_v9)
      = up (quarter 3 b.wu) := copy9 b.wu 3 (by decide) _ h9
  have c101 : ∀ a e, View.read (Elt Ideal) (((View.whole main_v10).slice (Rect.unit ![1, 0, 0] ![1, 704, 1024] a)).reshape S704x1024 e) (V m c main_v10)
      = up (quarter 1 b.wd) := copy10 b.wd 1 (by decide) _ h10
  have c102 : ∀ a e, View.read (Elt Ideal) (((View.whole main_v10).slice (Rect.unit ![2, 0, 0] ![1, 704, 1024] a)).reshape S704x1024 e) (V m c main_v10)
      = up (quarter 2 b.wd) := copy10 b.wd 2 (by decide) _ h10
  have c103 : ∀ a e, View.read (Elt Ideal) (((View.whole main_v10).slice (Rect.unit ![3, 0, 0] ![1, 704, 1024] a)).reshape S704x1024 e) (V m c main_v10)
      = up (quarter 3 b.wd) := copy10 b.wd 3 (by decide) _ h10
  unfold Leaves stepA
  dsimp only
  refine ⟨⟨(View.read_writes_eq_canon _ _ _ (coverA_4 m c t h0)).trans ?_, (View.read_writes_eq_canon _ _ _ (coverA_10 m c t h0)).trans ?_,
    (View.read_writes_eq_canon _ _ _ (coverA_11 m c t h0)).trans ?_, (View.read_writes_eq_canon _ _ _ (coverA_12 m c t h0)).trans ?_⟩,
    (View.read_writes_eq_canon _ _ _ (scoverA_0 m c t h0)).trans ?_, (View.read_writes_eq_canon _ _ _ (scoverA_1 m c t h0)).trans ?_,
    (View.read_writes_eq_canon _ _ _ (scoverA_2 m c t h0)).trans ?_⟩
  all_goals
    unfold runA bodyA
    dsimp only
    sl_unfold_words
  rotate_left 4
  all_goals simp only [same_apply, c14, c16, c18, c81, c82, c83, c91, c92, c93, c101, c102, c103]
  · exact canon_quarters _ _ _ _ _
  · exact canon_quarters _ _ _ _ _
  · exact canon_quarters _ _ _ _ _
  all_goals
    first
    | rw [View.canon_unit_zero hz]
    | rw [View.canon_cons_unit_zero hz]
    simp only [rd_part0, rd_part1, rd_part2, View.readCov_unit_zero (S := S8x1024) _ hz, View.readAt_eq_ld, (hs0_0 t).read_unread, (hs0_1 t).read_unread,
      (hs0_2 t).read_unread, (hs0_3 t).read_unread]
    simp only [View.ld_unit_zero (S := S256x1024) hz, View.ld_unit_zero (S := S1x1024) hz]
    simp only [hH, hT, hg3, hg4]
    simp only [v_h, Tile.t_zero2, t_zero3, t_zero4, b.t_hh, b.t_rs, b.t_f, b.t_s0, b.t_s0', b.t_u0, b.t_u0', b.t_s1, b.t_s1', b.t_u1, b.t_u1', b.t_s2, b.t_s2', b.t_u2, b.t_u2', b.t_gg1, b.t_d0,
      b.t_d, b.t_sq, v_len]
    simp only [b.t_dh, b.t_dy, b.t_dd, cov2, cov1, cov0, b.t_df0, b.t_df1, b.t_c2, b.t_df, b.t_dh1, b.t_loss, b.t_dg3, b.t_dg4]

end Cert.KernelIdeal.Ffn
end
-- ==== Proof.Ffn.Host.lean ====
module

public import proofs.«01_k».proof.Proof.Ffn.Data
public import proofs.«01_k».proof.Proof.Ffn.Points

/-!
What the launch finds when it starts, on real arguments: the weights turned, narrowed and cut in quarters, the rows laid out flat.
-/

@[expose] public section

set_option maxRecDepth 16384

noncomputable section

namespace Cert.KernelIdeal.Ffn

open Cert.KernelIdeal Cert.KernelIdeal.Gen Cert.Ffn
open Idealize.ShloMosaic Idealize.ShloMosaic.TcCoe

variable (m : (ℓ : Loc nD τ sig) → Buf (Elt Ideal) ℓ)

/-- The arguments of device `c` are the real data `d`. -/
structure Args (c : Dev nD) (d : Data) : Prop where
  h : m ((c.tc : Thread nD τ).loc main_arg0) = up3 d.h
  t : m ((c.tc : Thread nD τ).loc main_arg1) = up3 d.t
  g3 : m ((c.tc : Thread nD τ).loc main_arg2) = up fun (_ : Fin 1) => d.g3
  wg : m ((c.tc : Thread nD τ).loc main_arg3) = up3 fun (_ : Fin 1) => d.wg
  wu : m ((c.tc : Thread nD τ).loc main_arg4) = up3 fun (_ : Fin 1) => d.wu
  wd : m ((c.tc : Thread nD τ).loc main_arg5) = up3 fun (_ : Fin 1) => d.wd
  g4 : m ((c.tc : Thread nD τ).loc main_arg6) = up fun (_ : Fin 1) => d.g4

/-! ## The host lines before the launch -/

/-- A weight turned, narrowed and cut in four along its hidden axis; one that needs no turning; the first quarter of either. -/
def turned (x : FVec Ideal S1x1024x2816 .f32) : FVec Ideal S4x704x1024 .bf16 :=
  shapeCast S4x704x1024 (truncf .bf16 (transpose S2816x1024 [1, 0] (shapeCast S1024x2816 x shapeCasts_S1x1024x2816_S1024x2816) transposes_S1024x2816_S2816x1024_1_0) bitsLt_bf16_f32) shapeCasts_S2816x1024_S4x704x1024
def straight (x : FVec Ideal S1x2816x1024 .f32) : FVec Ideal S4x704x1024 .bf16 :=
  shapeCast S4x704x1024 (truncf .bf16 (shapeCast S2816x1024 x shapeCasts_S1x2816x1024_S2816x1024) bitsLt_bf16_f32) shapeCasts_S2816x1024_S4x704x1024
def first (x : FVec Ideal S4x704x1024 .bf16) : FVec Ideal S704x1024 .bf16 :=
  shapeCast S704x1024 (extractStridedSlice S1x704x1024 ![0, 0, 0] x slices_S4x704x1024_S1x704x1024_0_0_0) shapeCasts_S1x704x1024_S704x1024
/-- The rows of the batch laid out flat. -/
def flat (x : FVec Ideal S4x2048x1024 .f32) : FVec Ideal S8192x1024 .f32 := shapeCast S8192x1024 x shapeCasts_S4x2048x1024_S8192x1024

theorem turned_eq (w : Fin 1024 → Fin 2816 → ℝ) : turned (up3 fun (_ : Fin 1) => w) = up4 fun i k => w k i := by
  funext j; idx_vars j
  pointwise [turned, up3_ix3]
  refine congrArg (fun r : ℝ => (r : EReal)) (congrArg (w j2) (Fin.ext ?_))
  show j0.val * 704 + j1.val = (704 * j0.val + j1.val) % 2816
  omega

theorem straight_eq (w : Wt) : straight (up3 fun (_ : Fin 1) => w) = up4 w := by
  funext j; idx_vars j
  pointwise [straight, up3_ix3]
  refine congrArg (fun r : ℝ => (r : EReal)) (congrFun (congrArg w (Fin.ext ?_)) j2)
  show j0.val * 704 + j1.val = (704 * j0.val + j1.val) % 2816
  omega

theorem first_eq (w : Wt) : first (up4 w) = up (quarter 0 w) := by
  funext j; idx_vars j
  pointwise [first, up_ix2]
  rfl

theorem flat_eq (x : Fin 4 → Fin 2048 → Row) : flat (up3 x) = up fun n : Fin 8192 => x ⟨n.val / 2048, by omega⟩ ⟨n.val % 2048, by omega⟩ := by
  funext j; idx_vars j
  pointwise [flat, up3_ix3, up_ix2]

theorem e_v8 (c : Dev nD) : V m c main_v8 = turned (m ((c.tc : Thread nD τ).loc main_arg3)) := by
  show StableHlo.after (List.flatten [hostOps0]) (fun b => m (c, b)) (Proc.devRef .tc main_v8) = _
  simp only [hostOps0, List.flatten_cons, List.flatten_nil, List.append_nil]
  after_results_simp
  rfl
theorem e_v9 (c : Dev nD) : V m c main_v9 = turned (m ((c.tc : Thread nD τ).loc main_arg4)) := by
  show StableHlo.after (List.flatten [hostOps0]) (fun b => m (c, b)) (Proc.devRef .tc main_v9) = _
  simp only [hostOps0, List.flatten_cons, List.flatten_nil, List.append_nil]
  after_results_simp
  rfl
theorem e_v10 (c : Dev nD) : V m c main_v10 = straight (m ((c.tc : Thread nD τ).loc main_arg5)) := by
  show StableHlo.after (List.flatten [hostOps0]) (fun b => m (c, b)) (Proc.devRef .tc main_v10) = _
  simp only [hostOps0, List.flatten_cons, List.flatten_nil, List.append_nil]
  after_results_simp
  rfl
theorem e_v14 (c : Dev nD) : V m c main_v14 = first (turned (m ((c.tc : Thread nD τ).loc main_arg3))) := by
  show StableHlo.after (List.flatten [hostOps0]) (fun b => m (c, b)) (Proc.devRef .tc main_v14) = _
  simp only [hostOps0, List.flatten_cons, List.flatten_nil, List.append_nil]
  after_results_simp
  rfl
theorem e_v16 (c : Dev nD) : V m c main_v16 = first (turned (m ((c.tc : Thread nD τ).loc main_arg4))) := by
  show StableHlo.after (List.flatten [hostOps0]) (fun b => m (c, b)) (Proc.devRef .tc main_v16) = _
  simp only [hostOps0, List.flatten_cons, List.flatten_nil, List.append_nil]
  after_results_simp
  rfl
theorem e_v18 (c : Dev nD) : V m c main_v18 = first (straight (m ((c.tc : Thread nD τ).loc main_arg5))) := by
  show StableHlo.after (List.flatten [hostOps0]) (fun b => m (c, b)) (Proc.devRef .tc main_v18) = _
  simp only [hostOps0, List.flatten_cons, List.flatten_nil, List.append_nil]
  after_results_simp
  rfl
theorem e_v11 (c : Dev nD) : V m c main_v11 = flat (m ((c.tc : Thread nD τ).loc main_arg0)) := by
  show StableHlo.after (List.flatten [hostOps0]) (fun b => m (c, b)) (Proc.devRef .tc main_v11) = _
  simp only [hostOps0, List.flatten_cons, List.flatten_nil, List.append_nil]
  after_results_simp
  rfl
theorem e_v12 (c : Dev nD) : V m c main_v12 = flat (m ((c.tc : Thread nD τ).loc main_arg1)) := by
  show StableHlo.after (List.flatten [hostOps0]) (fun b => m (c, b)) (Proc.devRef .tc main_v12) = _
  simp only [hostOps0, List.flatten_cons, List.flatten_nil, List.append_nil]
  after_results_simp
  rfl

variable {m} {c : Dev nD} {d : Data} (A : Args m c d)
include A

theorem f_v8 : V m c main_v8 = up4 fun i k => d.wg k i := by rw [e_v8, A.wg, turned_eq]
theorem f_v9 : V m c main_v9 = up4 fun i k => d.wu k i := by rw [e_v9, A.wu, turned_eq]
theorem f_v10 : V m c main_v10 = up4 d.wd := by rw [e_v10, A.wd, straight_eq]
theorem f_v14 : V m c main_v14 = up (quarter 0 fun i k => d.wg k i) := by rw [e_v14, A.wg, turned_eq, first_eq]
theorem f_v16 : V m c main_v16 = up (quarter 0 fun i k => d.wu k i) := by rw [e_v16, A.wu, turned_eq, first_eq]
theorem f_v18 : V m c main_v18 = up (quarter 0 d.wd) := by rw [e_v18, A.wd, straight_eq, first_eq]
theorem f_v11 : V m c main_v11 = up fun n => (d.q n).h := by rw [e_v11, A.h, flat_eq]; rfl
theorem f_v12 : V m c main_v12 = up fun n => (d.q n).t := by rw [e_v12, A.t, flat_eq]; rfl

/-! ## The blocks of a point -/

/-- Row `r` of point `t`. -/
def rowOf (t : Fin cfg0.N) (r : Fin 256) : Fin 8192 :=
  ⟨256 * t.val + r.val, by have : t.val < 32 := Nat.lt_of_lt_of_eq t.isLt N_0; omega⟩

omit A in
theorem index_rows : ∀ t : Fin cfg0.N, (win0_0.index t 0 = t.val ∧ win0_0.index t 1 = 0) ∧ (win0_1.index t 0 = t.val ∧ win0_1.index t 1 = 0) ∧
    (win0_2.index t 0 = 0 ∧ win0_2.index t 1 = 0) ∧ (win0_3.index t 0 = 0 ∧ win0_3.index t 1 = 0) ∧ (win0_4.index t 0 = t.val ∧ win0_4.index t 1 = 0) :=
  (by decide +kernel : ∀ t : Fin grid0.N, _)

omit A in
theorem cut_0 (c : Dev nD) (t : Fin cfg0.N) (x : Fin 8192 → Row) (h : V m c main_v11 = up x) : iblk m c 0 t = up fun r : Fin 256 => x (rowOf t r) := by
  have hi := (index_rows t).1
  funext j
  unfold iblk
  rw [View.read_apply]
  show V m c main_v11 _ = _
  rw [h]
  refine congrArg (fun r : ℝ => (r : EReal)) (congr (congrArg x (Fin.ext ?_)) (Fin.ext ?_))
  · show win0_0.index t 0 * 256 + 1 * (j 0).val = 256 * t.val + (j 0).val; rw [hi.1]; omega
  · show win0_0.index t 1 * 1024 + 1 * (j 1).val = (j 1).val; rw [hi.2]; omega

omit A in
theorem cut_1 (c : Dev nD) (t : Fin cfg0.N) (x : Fin 8192 → Row) (h : V m c main_v12 = up x) : iblk m c 1 t = up fun r : Fin 256 => x (rowOf t r) := by
  have hi := (index_rows t).2.1
  funext j
  unfold iblk
  rw [View.read_apply]
  show V m c main_v12 _ = _
  rw [h]
  refine congrArg (fun r : ℝ => (r : EReal)) (congr (congrArg x (Fin.ext ?_)) (Fin.ext ?_))
  · show win0_1.index t 0 * 256 + 1 * (j 0).val = 256 * t.val + (j 0).val; rw [hi.1]; omega
  · show win0_1.index t 1 * 1024 + 1 * (j 1).val = (j 1).val; rw [hi.2]; omega

omit A in
theorem cut_2 (c : Dev nD) (t : Fin cfg0.N) (x : Fin 1 → Row) (h : V m c main_arg2 = up x) : iblk m c 2 t = up x := by
  have hi := (index_rows t).2.2.1
  funext j
  unfold iblk
  rw [View.read_apply]
  show V m c main_arg2 _ = _
  rw [h]
  refine congrArg (fun r : ℝ => (r : EReal)) (congr (congrArg x (Fin.ext ?_)) (Fin.ext ?_))
  · show win0_2.index t 0 * 1 + 1 * (j 0).val = (j 0).val; rw [hi.1]; omega
  · show win0_2.index t 1 * 1024 + 1 * (j 1).val = (j 1).val; rw [hi.2]; omega

omit A in
theorem cut_3 (c : Dev nD) (t : Fin cfg0.N) (x : Fin 1 → Row) (h : V m c main_arg6 = up x) : iblk m c 3 t = up x := by
  have hi := (index_rows t).2.2.2.1
  funext j
  unfold iblk
  rw [View.read_apply]
  show V m c main_arg6 _ = _
  rw [h]
  refine congrArg (fun r : ℝ => (r : EReal)) (congr (congrArg x (Fin.ext ?_)) (Fin.ext ?_))
  · show win0_3.index t 0 * 1 + 1 * (j 0).val = (j 0).val; rw [hi.1]; omega
  · show win0_3.index t 1 * 1024 + 1 * (j 1).val = (j 1).val; rw [hi.2]; omega

/-- The real data a point sees. -/
def tile (d : Data) (t : Fin cfg0.N) : Tile :=
  ⟨fun r => (d.q (rowOf t r)).h, fun r => (d.q (rowOf t r)).t, d.g3, d.g4, fun i k => d.wg k i, fun i k => d.wu k i, d.wd⟩

omit A in
theorem tile_row (d : Data) (t : Fin cfg0.N) (r : Fin 256) : (tile d t).row r = d.q (rowOf t r) := rfl

theorem i_0 (t : Fin cfg0.N) : iblk m c 0 t = up (tile d t).H := cut_0 c t _ (f_v11 A)
theorem i_1 (t : Fin cfg0.N) : iblk m c 1 t = up (tile d t).T := cut_1 c t _ (f_v12 A)
theorem i_2 (t : Fin cfg0.N) : iblk m c 2 t = up (tile d t).G3 := cut_2 c t _ ((V_main_arg2 m c).trans A.g3)
theorem i_3 (t : Fin cfg0.N) : iblk m c 3 t = up (tile d t).G4 := cut_3 c t _ ((V_main_arg6 m c).trans A.g4)

end Cert.KernelIdeal.Ffn

end
-- ==== Proof.Ffn.Arrays.lean ====
module

public import proofs.«01_k».proof.Proof.Ffn.Sums
public import proofs.«01_k».proof.Proof.Ffn.Host
public import proofs.«01_k».proof.Proof.Ffn.Frame

/-!
What the launch leaves in its arrays on real arguments, and what the host lines after it make of them.
-/

@[expose] public section

set_option maxRecDepth 16384

noncomputable section

namespace Cert.KernelIdeal.Ffn

open Cert.KernelIdeal Cert.KernelIdeal.Gen Cert.Ffn
open Idealize.ShloMosaic Idealize.ShloMosaic.TcCoe
open Idealize.ShloMosaic.Pipeline (Dat Cfg Window)
open scoped BigOperators

variable {m : (ℓ : Loc nD τ sig) → Buf (Elt Ideal) ℓ} {c : Dev nD} {d : Data} (A : Args m c d)

/-- The three sums' terms of a row: the square of the error, the gradients of the two gains. -/
def term1 (p : Inp) : Row := fun j => p.err j * p.err j
def term2 (p : Inp) : Row := fun j => p.df j * nrm p.h j
def term3 (p : Inp) : Row := fun j => p.dy j * p.dh j

/-- What is left after point `t`. -/
structure Done (d : Data) (t : Fin cfg0.N) (p : Left Ideal) : Prop where
  dh1 : p.1 = up fun r => (d.q (rowOf t r)).dh1
  s1 : p.2.2.2.2.2.2.1 = up (running (fun k => term1 (d.row k)) t.val)
  s2 : p.2.2.2.2.2.2.2.1 = up (running (fun k => term2 (d.row k)) t.val)
  s3 : p.2.2.2.2.2.2.2.2.1 = up (running (fun k => term3 (d.row k)) t.val)
  wg : p.2.2.2.2.2.2.2.2.2.1 = up fun i k => d.wg k i
  wu : p.2.2.2.2.2.2.2.2.2.2.1 = up fun i k => d.wu k i
  wd : p.2.2.2.2.2.2.2.2.2.2.2 = up d.wd

/-- The terms of a point's rows, as the flat rows' terms. -/
theorem terms (d : Data) (t : Fin cfg0.N) (f : Inp → Row) : (fun r => f ((tile d t).row r)) = fun r : Fin 256 => f (d.row (256 * t.val + r.val)) := by
  funext r
  rw [tile_row, Data.q_eq]
  rfl

theorem running_step (T : ℕ → Row) (n : ℕ) (h : n ≠ 0) : fold8 (running T (n - 1)) (fun r => T (256 * n + r.val)) = running T n := by
  obtain ⟨k, rfl⟩ := Nat.exists_eq_succ_of_ne_zero h
  rfl

theorem running_zero (T : ℕ → Row) (n : ℕ) (h : n = 0) : fold8 (fun _ _ => 0) (fun r => T (256 * n + r.val)) = running T n := by
  subst h
  show fold8 _ _ = fold8 _ _
  refine congrArg _ (funext fun r => congrArg T ?_)
  omega

include A

theorem done_A (t : Fin cfg0.N) (h0 : t.val % 32 = 0) : Done d t (outs m c t.val t.isLt) := by
  have hN : t.val < 32 := Nat.lt_of_lt_of_eq t.isLt N_0
  have hz : t.val = 0 := by omega
  rw [outs_A m c t h0]
  obtain ⟨⟨l0, l1, l2, l3⟩, w0, w1, w2⟩ := stepA_left m (tile d t) c t h0 (i_0 A t) (i_1 A t) (i_2 A t) (i_3 A t) (f_v8 A) (f_v9 A) (f_v10 A) (f_v14 A) (f_v16 A) (f_v18 A)
  refine ⟨l0, l1.trans (congrArg up ?_), l2.trans (congrArg up ?_), l3.trans (congrArg up ?_), w0, w1, w2⟩
  · exact (congrArg _ (terms d t term1)).trans (running_zero (fun k => term1 (d.row k)) _ hz)
  · exact (congrArg _ (terms d t term2)).trans (running_zero (fun k => term2 (d.row k)) _ hz)
  · exact (congrArg _ (terms d t term3)).trans (running_zero (fun k => term3 (d.row k)) _ hz)

theorem done_B (t : Fin cfg0.N) (h0 : ¬t.val % 32 = 0)
    (ih : Done d ⟨t.val - 1, Nat.lt_of_le_of_lt (Nat.sub_le _ _) t.isLt⟩ (outs m c (t.val - 1) (Nat.lt_of_le_of_lt (Nat.sub_le _ _) t.isLt))) :
    Done d t (outs m c t.val t.isLt) := by
  have hz : t.val ≠ 0 := fun e => h0 (by rw [e])
  rw [outs_B m c t h0]
  generalize outs m c (t.val - 1) (Nat.lt_of_le_of_lt (Nat.sub_le _ _) t.isLt) = p at ih ⊢
  obtain ⟨l0, l1, l2, l3⟩ := stepB_left m (tile d t) c t h0 p _ _ _ (i_0 A t) (i_1 A t) (i_2 A t) (i_3 A t) ih.wg ih.wu ih.wd ih.s1 ih.s2 ih.s3
  refine ⟨l0, l1.trans (congrArg up ?_), l2.trans (congrArg up ?_), l3.trans (congrArg up ?_), ih.wg, ih.wu, ih.wd⟩
  · exact (congrArg _ (terms d t term1)).trans (running_step (fun k => term1 (d.row k)) _ hz)
  · exact (congrArg _ (terms d t term2)).trans (running_step (fun k => term2 (d.row k)) _ hz)
  · exact (congrArg _ (terms d t term3)).trans (running_step (fun k => term3 (d.row k)) _ hz)

theorem done : ∀ (n : ℕ) (hn : n < cfg0.N), Done d ⟨n, hn⟩ (outs m c n hn)
  | 0, hn => done_A A ⟨0, hn⟩ rfl
  | n + 1, hn => done_B A ⟨n + 1, hn⟩ (by have : n + 1 < 32 := Nat.lt_of_lt_of_eq hn N_0; show ¬(n + 1) % 32 = 0; omega) (done n _)

/-! ## The arrays -/

omit A in
theorem last_val (t : Fin cfg0.N) (h : t.val % 32 = 31) : t.val = 31 := by
  have : t.val < 32 := Nat.lt_of_lt_of_eq t.isLt N_0
  omega

theorem arr_4 : (dats m 0 c).arrAt 4 cfg0.N = (up fun n : Fin 8192 => (d.q n).dh1 : FVec Ideal S8192x1024 .f32) := by
  refine (dats m 0 c).arrAt_eq_of_cover 4 (up fun n : Fin 8192 => (d.q n).dh1 : FVec Ideal S8192x1024 .f32) (fun t _ => ?_) (fun i => ?_)
  · have hi := (index_rows t).2.2.2.2
    show (cfg0.win 4).cut (grid0.coords t) ((dats m 0 c).after 4 t) = _
    rw [after0_4, (done A t.val t.isLt).dh1]
    funext j
    rw [View.read_apply]
    refine congrArg (fun r : ℝ => (r : EReal)) (congr (congrArg (fun n => (d.q n).dh1) (Fin.ext ?_)) (Fin.ext ?_))
    · show 256 * t.val + (j 0).val = win0_4.index t 0 * 256 + 1 * (j 0).val; rw [hi.1]; omega
    · show (j 1).val = win0_4.index t 1 * 1024 + 1 * (j 1).val; rw [hi.2]; omega
  · have h0 : (i 0 : Nat) < 8192 := (i 0).isLt
    have h1 : (i 1 : Nat) < 1024 := (i 1).isLt
    have hN : cfg0.N = 32 := N_0
    obtain ⟨t, ht⟩ : ∃ t : Fin cfg0.N, t.val = (i 0).val / 256 := ⟨⟨(i 0).val / 256, by omega⟩, rfl⟩
    refine ⟨t, flush0_4 t, ?_⟩
    have hi := (index_rows t).2.2.2.2
    show i ∈ ((View.whole main_v19_0).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [hi.1]; omega
    | ⟨1, _⟩ =>
      show win0_4.index t 1 * 1024 ≤ (i 1 : Nat) ∧ (i 1 : Nat) < win0_4.index t 1 * 1024 + 1024
      rw [hi.2]; omega

omit A in
theorem index_sums : ∀ t : Fin cfg0.N, (win0_10.index t 0 = 0 ∧ win0_10.index t 1 = 0) ∧ (win0_11.index t 0 = 0 ∧ win0_11.index t 1 = 0) ∧
    (win0_12.index t 0 = 0 ∧ win0_12.index t 1 = 0) :=
  (by decide +kernel : ∀ t : Fin grid0.N, _)

theorem arr_10 : (dats m 0 c).arrAt 10 cfg0.N = (up (running (fun k => term1 (d.row k)) 31) : FVec Ideal S8x1024 .f32) := by
  refine (dats m 0 c).arrAt_eq_of_cover 10 (up (running (fun k => term1 (d.row k)) 31) : FVec Ideal S8x1024 .f32) (fun t ht => ?_) (fun i => ?_)
  · have hi := (index_sums t).1
    show (cfg0.win 10).cut (grid0.coords t) ((dats m 0 c).after 10 t) = _
    rw [after0_10, (done A t.val t.isLt).s1]
    show up (running _ t.val) = _
    rw [last_val t ((flush0_10 t).mp ht)]
    funext j
    rw [View.read_apply]
    refine congrArg (fun r : ℝ => (r : EReal)) (congr (congrArg (running _ 31) (Fin.ext ?_)) (Fin.ext ?_))
    · show (j 0).val = win0_10.index t 0 * 8 + 1 * (j 0).val; rw [hi.1]; omega
    · show (j 1).val = win0_10.index t 1 * 1024 + 1 * (j 1).val; rw [hi.2]; omega
  · have hN : cfg0.N = 32 := N_0
    obtain ⟨t, ht⟩ : ∃ t : Fin cfg0.N, t.val = 31 := ⟨⟨31, by omega⟩, rfl⟩
    have h0 : (i 0 : Nat) < 8 := (i 0).isLt
    have h1 : (i 1 : Nat) < 1024 := (i 1).isLt
    refine ⟨t, (flush0_10 t).mpr (by omega), ?_⟩
    have hi := (index_sums t).1
    show i ∈ ((View.whole main_v19_6).slice (win0_10.rect t)).set
    rw [View.set_slice_whole, Rect.mem_set_unit]
    intro a
    match a with
    | ⟨0, _⟩ =>
      show win0_10.index t 0 * 8 ≤ (i 0 : Nat) ∧ (i 0 : Nat) < win0_10.index t 0 * 8 + 8
      rw [hi.1]; omega
    | ⟨1, _⟩ =>
      show win0_10.index t 1 * 1024 ≤ (i 1 : Nat) ∧ (i 1 : Nat) < win0_10.index t 1 * 1024 + 1024
      rw [hi.2]; omega

theorem arr_11 : (dats m 0 c).arrAt 11 cfg0.N = (up (running (fun k => term2 (d.row k)) 31) : FVec Ideal S8x1024 .f32) := by
  refine (dats m 0 c).arrAt_eq_of_cover 11 (up (running (fun k => term2 (d.row k)) 31) : FVec Ideal S8x1024 .f32) (fun t ht => ?_) (fun i => ?_)
  · have hi := (index_sums t).2.1
    show (cfg0.win 11).cut (grid0.coords t) ((dats m 0 c).after 11 t) = _
    rw [after0_11, (done A t.val t.isLt).s2]
    show up (running _ t.val) = _
    rw [last_val t ((flush0_11 t).mp ht)]
    funext j
    rw [View.read_apply]
    refine congrArg (fun r : ℝ => (r : EReal)) (congr (congrArg (running _ 31) (Fin.ext ?_)) (Fin.ext ?_))
    · show (j 0).val = win0_11.index t 0 * 8 + 1 * (j 0).val; rw [hi.1]; omega
    · show (j 1).val = win0_11.index t 1 * 1024 + 1 * (j 1).val; rw [hi.2]; omega
  · have hN : cfg0.N = 32 := N_0
    obtain ⟨t, ht⟩ : ∃ t : Fin cfg0.N, t.val = 31 := ⟨⟨31, by omega⟩, rfl⟩
    have h0 : (i 0 : Nat) < 8 := (i 0).isLt
    have h1 : (i 1 : Nat) < 1024 := (i 1).isLt
    refine ⟨t, (flush0_11 t).mpr (by omega), ?_⟩
    have hi := (index_sums t).2.1
    show i ∈ ((View.whole main_v19_7).slice (win0_11.rect t)).set
    rw [View.set_slice_whole, Rect.mem_set_unit]
    intro a
    match a with
    | ⟨0, _⟩ =>
      show win0_11.index t 0 * 8 ≤ (i 0 : Nat) ∧ (i 0 : Nat) < win0_11.index t 0 * 8 + 8
      rw [hi.1]; omega
    | ⟨1, _⟩ =>
      show win0_11.index t 1 * 1024 ≤ (i 1 : Nat) ∧ (i 1 : Nat) < win0_11.index t 1 * 1024 + 1024
      rw [hi.2]; omega

theorem arr_12 : (dats m 0 c).arrAt 12 cfg0.N = (up (running (fun k => term3 (d.row k)) 31) : FVec Ideal S8x1024 .f32) := by
  refine (dats m 0 c).arrAt_eq_of_cover 12 (up (running (fun k => term3 (d.row k)) 31) : FVec Ideal S8x1024 .f32) (fun t ht => ?_) (fun i => ?_)
  · have hi := (index_sums t).2.2
    show (cfg0.win 12).cut (grid0.coords t) ((dats m 0 c).after 12 t) = _
    rw [after0_12, (done A t.val t.isLt).s3]
    show up (running _ t.val) = _
    rw [last_val t ((flush0_12 t).mp ht)]
    funext j
    rw [View.read_apply]
    refine congrArg (fun r : ℝ => (r : EReal)) (congr (congrArg (running _ 31) (Fin.ext ?_)) (Fin.ext ?_))
    · show (j 0).val = win0_12.index t 0 * 8 + 1 * (j 0).val; rw [hi.1]; omega
    · show (j 1).val = win0_12.index t 1 * 1024 + 1 * (j 1).val; rw [hi.2]; omega
  · have hN : cfg0.N = 32 := N_0
    obtain ⟨t, ht⟩ : ∃ t : Fin cfg0.N, t.val = 31 := ⟨⟨31, by omega⟩, rfl⟩
    have h0 : (i 0 : Nat) < 8 := (i 0).isLt
    have h1 : (i 1 : Nat) < 1024 := (i 1).isLt
    refine ⟨t, (flush0_12 t).mpr (by omega), ?_⟩
    have hi := (index_sums t).2.2
    show i ∈ ((View.whole main_v19_8).slice (win0_12.rect t)).set
    rw [View.set_slice_whole, Rect.mem_set_unit]
    intro a
    match a with
    | ⟨0, _⟩ =>
      show win0_12.index t 0 * 8 ≤ (i 0 : Nat) ∧ (i 0 : Nat) < win0_12.index t 0 * 8 + 8
      rw [hi.1]; omega
    | ⟨1, _⟩ =>
      show win0_12.index t 1 * 1024 ≤ (i 1 : Nat) ∧ (i 1 : Nat) < win0_12.index t 1 * 1024 + 1024
      rw [hi.2]; omega

/-! ## The host lines after the launch -/

omit A in
theorem t_v25 (V₀ : Valuation τ sig (Elt Ideal)) (x : FVec Ideal S8x1024 .f32) (h : V₀ (Proc.devRef .tc main_v19_6) = x) :
    StableHlo.after (List.flatten [hostOps1]) V₀ (Proc.devRef .tc main_v25) = (mulf (broadcastInDim S1x1 ![0] bcast_S1_S1x1_0 (Host.reduceAdd (broadcastInDim S1x1024 ![1] bcast_S1024_S1x1024_1 (Host.reduceAdd x (constant S_ .f32 0x00000000#32) reducesTo_S8x1024_S1024_d0 h_S_)) (constant S_ .f32 0x00000000#32) reducesTo_S1x1024_S1_d1 h_S_)) (broadcastInDim S1x1 ![] bcast_S_S1x1 (constant S_ .f32 0x3A000000#32)) : FVec Ideal S1x1 .f32) := by
  simp only [hostOps1, List.flatten_cons, List.flatten_nil, List.append_nil]
  after_results_simp
  rw [h]
omit A in
theorem t_v27 (V₀ : Valuation τ sig (Elt Ideal)) (x : FVec Ideal S8x1024 .f32) (h : V₀ (Proc.devRef .tc main_v19_7) = x) :
    StableHlo.after (List.flatten [hostOps1]) V₀ (Proc.devRef .tc main_v27) = (broadcastInDim S1x1024 ![1] bcast_S1024_S1x1024_1 (Host.reduceAdd x (constant S_ .f32 0x00000000#32) reducesTo_S8x1024_S1024_d0 h_S_) : FVec Ideal S1x1024 .f32) := by
  simp only [hostOps1, List.flatten_cons, List.flatten_nil, List.append_nil]
  after_results_simp
  rw [h]
omit A in
theorem t_v29 (V₀ : Valuation τ sig (Elt Ideal)) (x : FVec Ideal S8x1024 .f32) (h : V₀ (Proc.devRef .tc main_v19_8) = x) :
    StableHlo.after (List.flatten [hostOps1]) V₀ (Proc.devRef .tc main_v29) = (broadcastInDim S1x1024 ![1] bcast_S1024_S1x1024_1 (Host.reduceAdd x (constant S_ .f32 0x00000000#32) reducesTo_S8x1024_S1024_d0 h_S_) : FVec Ideal S1x1024 .f32) := by
  simp only [hostOps1, List.flatten_cons, List.flatten_nil, List.append_nil]
  after_results_simp
  rw [h]

omit A in
theorem column (x : Fin 8 → Row) : (broadcastInDim S1x1024 ![1] bcast_S1024_S1x1024_1 (Host.reduceAdd (up x : FVec Ideal S8x1024 .f32) (constant S_ .f32 0x00000000#32) reducesTo_S8x1024_S1024_d0 h_S_) : FVec Ideal S1x1024 .f32) =
    up fun (_ : Fin 1) j => ∑ e, x e j := by
  funext j; idx_vars j
  pointwise [up_ix2]
  simp only [coe_sum]

omit A in
theorem total (x : Fin 8 → Row) : (mulf (broadcastInDim S1x1 ![0] bcast_S1_S1x1_0 (Host.reduceAdd (up fun (_ : Fin 1) j => ∑ e, x e j : FVec Ideal S1x1024 .f32) (constant S_ .f32 0x00000000#32) reducesTo_S1x1024_S1_d1 h_S_)) (broadcastInDim S1x1 ![] bcast_S_S1x1 (constant S_ .f32 0x3A000000#32)) : FVec Ideal S1x1 .f32) =
    up fun (_ _ : Fin 1) => (∑ j, ∑ e, x e j) * (1 / 2048) := by
  funext j; idx_vars j
  pointwise [up_ix2]
  simp only [word_scale, coe_sum, ← EReal.coe_mul]

omit A in
theorem arr_inj : Function.Injective (Pipeline.arrRef spec0) := by decide

omit A in
theorem after_v25 (x : FVec Ideal S8x1024 .f32) (h : (dats m 0 c).arrAt 10 cfg0.N = x) :
    Pipeline.afterTail₀ cfgs (dats m) 0 (V0 m) [hostOps1] c main_v25 = (mulf (broadcastInDim S1x1 ![0] bcast_S1_S1x1_0 (Host.reduceAdd (broadcastInDim S1x1024 ![1] bcast_S1024_S1x1024_1 (Host.reduceAdd x (constant S_ .f32 0x00000000#32) reducesTo_S8x1024_S1024_d0 h_S_)) (constant S_ .f32 0x00000000#32) reducesTo_S1x1024_S1_d1 h_S_)) (broadcastInDim S1x1 ![] bcast_S_S1x1 (constant S_ .f32 0x3A000000#32)) : FVec Ideal S1x1 .f32) := by
  unfold Pipeline.afterTail₀
  exact t_v25 _ x ((Pipeline.withArrays_arr spec0 arr_inj c (V0 m c) _ 10).trans h)

omit A in
theorem after_v27 (x : FVec Ideal S8x1024 .f32) (h : (dats m 0 c).arrAt 11 cfg0.N = x) :
    Pipeline.afterTail₀ cfgs (dats m) 0 (V0 m) [hostOps1] c main_v27 = (broadcastInDim S1x1024 ![1] bcast_S1024_S1x1024_1 (Host.reduceAdd x (constant S_ .f32 0x00000000#32) reducesTo_S8x1024_S1024_d0 h_S_) : FVec Ideal S1x1024 .f32) := by
  unfold Pipeline.afterTail₀
  exact t_v27 _ x ((Pipeline.withArrays_arr spec0 arr_inj c (V0 m c) _ 11).trans h)

omit A in
theorem after_v29 (x : FVec Ideal S8x1024 .f32) (h : (dats m 0 c).arrAt 12 cfg0.N = x) :
    Pipeline.afterTail₀ cfgs (dats m) 0 (V0 m) [hostOps1] c main_v29 = (broadcastInDim S1x1024 ![1] bcast_S1024_S1x1024_1 (Host.reduceAdd x (constant S_ .f32 0x00000000#32) reducesTo_S8x1024_S1024_d0 h_S_) : FVec Ideal S1x1024 .f32) := by
  unfold Pipeline.afterTail₀
  exact t_v29 _ x ((Pipeline.withArrays_arr spec0 arr_inj c (V0 m c) _ 12).trans h)

theorem end_v25 : Pipeline.afterTail₀ cfgs (dats m) 0 (V0 m) [hostOps1] c main_v25 = (up fun (_ _ : Fin 1) => (∑ j, ∑ e, running (fun k => term1 (d.row k)) 31 e j) * (1 / 2048) : FVec Ideal S1x1 .f32) := by
  rw [after_v25 _ (arr_10 A), column, total]

theorem end_v27 : Pipeline.afterTail₀ cfgs (dats m) 0 (V0 m) [hostOps1] c main_v27 = (up fun (_ : Fin 1) j => ∑ e, running (fun k => term2 (d.row k)) 31 e j : FVec Ideal S1x1024 .f32) := by
  rw [after_v27 _ (arr_11 A), column]

theorem end_v29 : Pipeline.afterTail₀ cfgs (dats m) 0 (V0 m) [hostOps1] c main_v29 = (up fun (_ : Fin 1) j => ∑ e, running (fun k => term3 (d.row k)) 31 e j : FVec Ideal S1x1024 .f32) := by
  rw [after_v29 _ (arr_12 A), column]

/-- The four results of a run on real arguments. -/
structure Results (r : PUnit × MemSt nD τ sig (Elt Ideal)) (c : Dev nD) (d : Data) : Prop where
  loss : r.2.mem ((c.tc : Thread nD τ).loc main_v25) = (up fun (_ _ : Fin 1) => (∑ j, ∑ e, running (fun k => term1 (d.row k)) 31 e j) * (1 / 2048) : FVec Ideal S1x1 .f32)
  dh1 : r.2.mem ((c.tc : Thread nD τ).loc main_v19_0) = (up fun n : Fin 8192 => (d.q n).dh1 : FVec Ideal S8192x1024 .f32)
  dg3 : r.2.mem ((c.tc : Thread nD τ).loc main_v27) = (up fun (_ : Fin 1) j => ∑ e, running (fun k => term2 (d.row k)) 31 e j : FVec Ideal S1x1024 .f32)
  dg4 : r.2.mem ((c.tc : Thread nD τ).loc main_v29) = (up fun (_ : Fin 1) j => ∑ e, running (fun k => term3 (d.row k)) 31 e j : FVec Ideal S1x1024 .f32)

omit A in
theorem run_value (d : Dev nD → Data) (A : ∀ c, Args m c (d c)) (ρ : Dev nD → PrngReg) :
    θ_run defs (onTc (τ := τ) (main (F := Ideal))) ⟨m, fun _ => 0, ρ⟩ (fun r => ∀ c : Dev nD, Results r c (d c)) :=
  (θ_run defs _ _).mono (fun r h c =>
    ⟨((h c).2 main_v25 (Pipeline.mem_restRefs_of main_v25 (by decide) (by decide))).trans (end_v25 (A c)),
      ((h c).1 4).trans (arr_4 (A c)),
      ((h c).2 main_v27 (Pipeline.mem_restRefs_of main_v27 (by decide) (by decide))).trans (end_v27 (A c)),
      ((h c).2 main_v29 (Pipeline.mem_restRefs_of main_v29 (by decide) (by decide))).trans (end_v29 (A c))⟩) (run_main m ρ)

end Cert.KernelIdeal.Ffn

end
-- ==== Proof.Ffn.Ref.lean ====
module

public import proofs.«01_k».proof.Proof.Ffn.Data
public import proofs.«01_k».proof.Proof.Gen.ReferenceIdeal.Run

/-!
The reference on real arguments: each of its values, at a position of the batch, in the terms of `Rows`.
-/

@[expose] public section

set_option maxRecDepth 16384

noncomputable section

namespace Cert.ReferenceIdeal.Ffn

open Cert.ReferenceIdeal Cert.ReferenceIdeal.Gen Cert.ReferenceIdeal.Value Cert.Ffn
open Idealize.ShloMosaic
open scoped BigOperators

/-- The arguments read as the real data `d`. -/
structure Reads (V0 : Valuation τ sig (Elt Ideal)) (d : Data) : Prop where
  h : V0 (Proc.devRef .tc main_arg0) = up3 d.h
  t : V0 (Proc.devRef .tc main_arg1) = up3 d.t
  g3 : V0 (Proc.devRef .tc main_arg2) = up fun (_ : Fin 1) => d.g3
  wg : V0 (Proc.devRef .tc main_arg3) = up3 fun (_ : Fin 1) => d.wg
  wu : V0 (Proc.devRef .tc main_arg4) = up3 fun (_ : Fin 1) => d.wu
  wd : V0 (Proc.devRef .tc main_arg5) = up3 fun (_ : Fin 1) => d.wd
  g4 : V0 (Proc.devRef .tc main_arg6) = up fun (_ : Fin 1) => d.g4

variable {V0 : Valuation τ sig (Elt Ideal)} {d : Data} (R : Reads V0 d)
include R

theorem r_v7 : res_main_v7 V0 = up3 fun b s (_ : Fin 1) => ms (d.h b s) := by
  funext j; idx_vars j
  pointwise [res_main_v7, R.h, up3_ix3]
  simp only [word_1024, word_eps, ← EReal.coe_mul, ← EReal.coe_add, coe_sum, coe_div (by norm_num : (1024 : ℝ) ≠ 0)]
  rfl

theorem r_v8 : res_main_v8 V0 = up3 fun b s (_ : Fin 1) => rs (d.h b s) := by
  funext j; idx_vars j
  pointwise [res_main_v8, r_v7 R, up3_ix3]
  exact coe_rsqrt (ms_pos _)

theorem r_v13 : res_main_v13 V0 = up3 fun b s => nrm (d.h b s) := by
  funext j; idx_vars j
  pointwise [res_main_v13, R.h, r_v8 R, up3_ix3]
  rw [← EReal.coe_mul]; rfl

theorem r_v14 : res_main_v14 V0 = up3 fun (_ : Fin 1) (_ : Fin 1) => d.g3 := by
  funext j; idx_vars j
  pointwise [res_main_v14, R.g3, up3_ix3, up_ix2]

theorem r_v39 : res_main_v39 V0 = up3 fun (_ : Fin 1) (_ : Fin 1) => d.g4 := by
  funext j; idx_vars j
  pointwise [res_main_v39, R.g4, up3_ix3, up_ix2]

theorem r_v16 : res_main_v16 V0 = up3 fun b s => (d.p b s).f := by
  funext j; idx_vars j
  pointwise [res_main_v16, r_v13 R, r_v14 R, up3_ix3]
  rw [← EReal.coe_mul]; rfl

theorem r_v17 : res_main_v17 V0 = up d.wg := by
  funext j; idx_vars j
  pointwise [res_main_v17, R.wg, up3_ix3, up_ix2]

theorem r_v20 : res_main_v20 V0 = up d.wu := by
  funext j; idx_vars j
  pointwise [res_main_v20, R.wu, up3_ix3, up_ix2]

theorem r_v23 : res_main_v23 V0 = up d.wd := by
  funext j; idx_vars j
  pointwise [res_main_v23, R.wd, up3_ix3, up_ix2]

theorem r_v18 : res_main_v18 V0 = up3 fun b s => (d.p b s).s := by
  funext j; idx_vars j
  pointwise [res_main_v18, r_v16 R, r_v17 R, up3_ix3, up_ix2]
  simp only [← EReal.coe_mul, coe_sum]
  rfl

theorem r_v21 : res_main_v21 V0 = up3 fun b s => (d.p b s).u := by
  funext j; idx_vars j
  pointwise [res_main_v21, r_v16 R, r_v20 R, up3_ix3, up_ix2]
  simp only [← EReal.coe_mul, coe_sum]
  rfl

theorem r_sig : res_main_v19_2 V0 = up3 fun b s i => Cert.Ffn.sig ((d.p b s).s i) := by
  funext j; idx_vars j
  pointwise [res_main_v19_2, r_v18 R, up3_ix3]
  simp only [word_one, ← EReal.coe_neg, Ideal.exp_coe]
  rw [← EReal.coe_one, ← EReal.coe_add, coe_div (one_add_exp_ne _)]
  unfold Cert.Ffn.sig
  rw [zero_sub]

theorem r_silu : res_main_v19_0 V0 = up3 fun b s i => (d.p b s).s i * Cert.Ffn.sig ((d.p b s).s i) := by
  funext j; idx_vars j
  pointwise [res_main_v19_0, r_v18 R, r_sig R, up3_ix3]
  rw [← EReal.coe_mul]

theorem r_v24 : res_main_v24 V0 = up3 fun b s => (d.p b s).d := by
  funext j; idx_vars j
  pointwise [res_main_v24, r_silu R, r_v21 R, r_v23 R, up3_ix3, up_ix2]
  simp only [← EReal.coe_mul, coe_sum]
  rfl

theorem r_v32 : res_main_v32 V0 = up3 fun b s (_ : Fin 1) => ms (d.p b s).d := by
  funext j; idx_vars j
  pointwise [res_main_v32, r_v24 R, up3_ix3]
  simp only [word_1024, word_eps, ← EReal.coe_mul, ← EReal.coe_add, coe_sum, coe_div (by norm_num : (1024 : ℝ) ≠ 0)]
  rfl

theorem r_v33 : res_main_v33 V0 = up3 fun b s (_ : Fin 1) => rs (d.p b s).d := by
  funext j; idx_vars j
  pointwise [res_main_v33, r_v32 R, up3_ix3]
  exact coe_rsqrt (ms_pos _)

theorem r_v38 : res_main_v38 V0 = up3 fun b s => (d.p b s).dh := by
  funext j; idx_vars j
  pointwise [res_main_v38, r_v24 R, r_v33 R, up3_ix3]
  rw [← EReal.coe_mul]; rfl

theorem r_v43 : res_main_v43 V0 = up3 fun b s => (d.p b s).err := by
  funext j; idx_vars j
  pointwise [res_main_v43, R.h, R.t, r_v38 R, r_v39 R, up3_ix3]
  simp only [← EReal.coe_mul, ← EReal.coe_add, ← EReal.coe_sub]
  rfl

theorem r_v57 : res_main_v57 V0 = up3 fun b s => (d.p b s).dy := by
  funext j; idx_vars j
  pointwise [res_main_v57, r_v43 R, up3_ix3]
  simp only [word_half, word_one, word_two, word_1024, ← EReal.coe_mul, coe_div (by norm_num : (1024 : ℝ) ≠ 0)]
  refine congrArg (fun r : ℝ => (r : EReal)) ?_
  unfold Inp.dy
  ring

theorem r_v62 : res_main_v62 V0 = up3 fun b s => (d.p b s).dyg := by
  funext j; idx_vars j
  pointwise [res_main_v62, r_v57 R, r_v39 R, up3_ix3]
  rw [← EReal.coe_mul]; rfl

/-- The factor of the row itself in the gradient of a norm, before it is doubled. -/
def half (x dg : Row) : ℝ := (∑ k, x k * dg k) * (-(1 / 2) * (rs x / ms x)) / 1024

omit R in
theorem back_eq (x dg : Row) (j : Fin 1024) : dg j * rs x + x j * half x dg + half x dg * x j = back x dg j := by
  have h0 : ms x ≠ 0 := (ms_pos x).ne'
  have h2 : rs x * rs x = (ms x)⁻¹ := by
    unfold rs; rw [← mul_inv, Real.mul_self_sqrt (ms_pos x).le]
  have e : ∑ k, dg k * nrm x k = (∑ k, x k * dg k) * rs x := by
    rw [Finset.sum_mul]; exact Finset.sum_congr rfl fun k _ => by unfold nrm; ring
  unfold back half
  rw [e, div_eq_mul_inv (rs x), ← h2]
  unfold nrm
  ring

theorem r_v73 : res_main_v73 V0 = up3 fun b s (_ : Fin 1024) => half (d.p b s).d (d.p b s).dyg := by
  funext j; idx_vars j
  pointwise [res_main_v73, r_v24 R, r_v62 R, r_v32 R, r_v33 R, up3_ix3]
  simp only [word_neg_half, word_1024, ← EReal.coe_mul, coe_sum, coe_div (ms_pos _).ne', coe_div (by norm_num : (1024 : ℝ) ≠ 0)]
  rw [Fintype.sum_unique]
  rfl

theorem r_v79 : res_main_v79 V0 = up3 fun b s => (d.p b s).dgg := by
  funext j; idx_vars j
  pointwise [res_main_v79, r_v62 R, r_v33 R, r_v24 R, r_v73 R, r_v23 R, up3_ix3, up_ix2]
  simp only [← EReal.coe_mul, ← EReal.coe_add, coe_sum, back_eq]
  rfl

theorem r_v81 : res_main_v81 V0 = up3 fun b s i => (d.p b s).dgg i * (d.p b s).u i := by
  funext j; idx_vars j
  pointwise [res_main_v81, r_v79 R, r_v21 R, up3_ix3]
  rw [← EReal.coe_mul]

theorem r_v85 : res_main_v85 V0 = up3 fun b s => (d.p b s).df := by
  funext j; idx_vars j
  pointwise [res_main_v85, r_silu R, r_v79 R, r_v20 R, r_v81 R, r_sig R, r_v18 R, r_v17 R, up3_ix3, up_ix2]
  simp only [one_sub_coe, ← EReal.coe_mul, ← EReal.coe_add, coe_sum]
  refine congrArg (fun r : ℝ => (r : EReal)) ?_
  rw [add_comm]
  refine congrArg₂ (· + ·) (Finset.sum_congr rfl fun i _ => ?_) (Finset.sum_congr rfl fun i _ => ?_)
  · refine congrArg (· * d.wg _ i) ?_
    show _ = (d.p j0 j1).dgg i * (d.p j0 j1).u i * (Cert.Ffn.sig ((d.p j0 j1).s i) * (1 + (d.p j0 j1).s i * (1 - Cert.Ffn.sig ((d.p j0 j1).s i))))
    ring
  · refine congrArg (· * d.wu _ i) ?_
    exact mul_comm _ _

theorem r_v90 : res_main_v90 V0 = up3 fun b s => (d.p b s).dfg := by
  funext j; idx_vars j
  pointwise [res_main_v90, r_v85 R, r_v14 R, up3_ix3]
  rw [← EReal.coe_mul]; rfl

theorem r_v102 : res_main_v102 V0 = up3 fun b s (_ : Fin 1024) => half (d.p b s).h (d.p b s).dfg := by
  funext j; idx_vars j
  pointwise [res_main_v102, R.h, r_v90 R, r_v7 R, r_v8 R, up3_ix3]
  simp only [word_neg_half, word_1024, ← EReal.coe_mul, coe_sum, coe_div (ms_pos _).ne', coe_div (by norm_num : (1024 : ℝ) ≠ 0)]
  rw [Fintype.sum_unique]
  rfl

theorem r_loss : (shapeCast _ (mulf (constant S_ .f32 0x3F000000#32) (Host.reduceAdd (Host.divf (Host.reduceAdd (mulf (res_main_v43 V0) (res_main_v43 V0)) (constant S_ .f32 0x00000000#32) reducesTo_S4x2048x1024_S4x2048_d2 h_S_) (broadcastInDim S4x2048 ![] bcast_S_S4x2048 (constant S_ .f32 0x44800000#32))) (constant S_ .f32 0x00000000#32) reducesTo_S4x2048_S_d0_1 h_S_)) shapeCasts_S_S1x1 : FVec Ideal S1x1 .f32) =
    up fun (_ _ : Fin 1) => 1 / 2 * ∑ b, ∑ s, (∑ k, (d.p b s).err k * (d.p b s).err k) / 1024 := by
  funext j; idx_vars j
  pointwise [r_v43 R, up3_ix3, up_ix2]
  simp only [word_half, word_1024, ← EReal.coe_mul, coe_sum, coe_div (by norm_num : (1024 : ℝ) ≠ 0)]

theorem r_dh1 : (shapeCast _ (addf (addf (addf (res_main_v57 V0) (mulf (res_main_v90 V0) (broadcastInDim S4x2048x1024 ![0, 1, 2] bcast_S4x2048x1_S4x2048x1024_0_1_2 (res_main_v8 V0)))) (mulf (V0 (Proc.devRef .tc main_arg0)) (res_main_v102 V0))) (mulf (res_main_v102 V0) (V0 (Proc.devRef .tc main_arg0)))) shapeCasts_S4x2048x1024_S8192x1024 : FVec Ideal S8192x1024 .f32) =
    up fun n => (d.q n).dh1 := by
  funext j; idx_vars j
  pointwise [r_v57 R, r_v90 R, r_v8 R, r_v102 R, R.h, up3_ix3, up_ix2]
  simp only [← EReal.coe_mul, ← EReal.coe_add]
  refine congrArg (fun r : ℝ => (r : EReal)) ?_
  rw [add_assoc, add_assoc, ← add_assoc (_ * _)]
  exact congrArg _ (back_eq _ _ _)

theorem r_dg3 : (broadcastInDim S1x1024 ![1] bcast_S1024_S1x1024_1 (Host.reduceAdd (shapeCast _ (Host.reduceAdd (mulf (res_main_v13 V0) (res_main_v85 V0)) (constant S_ .f32 0x00000000#32) reducesTo_S4x2048x1024_S1024_d0_1 h_S_) shapeCasts_S1024_S1x1x1024) (constant S_ .f32 0x00000000#32) reducesTo_S1x1x1024_S1024_d0_1 h_S_) : FVec Ideal S1x1024 .f32) =
    up fun (_ : Fin 1) j => ∑ b, ∑ s, nrm (d.h b s) j * (d.p b s).df j := by
  funext j; idx_vars j
  pointwise [sum_lead, r_v13 R, r_v85 R, up3_ix3, up_ix2]
  simp only [← EReal.coe_mul, coe_sum, Fintype.sum_unique]

theorem r_dg4 : (broadcastInDim S1x1024 ![1] bcast_S1024_S1x1024_1 (Host.reduceAdd (shapeCast _ (Host.reduceAdd (mulf (res_main_v38 V0) (res_main_v57 V0)) (constant S_ .f32 0x00000000#32) reducesTo_S4x2048x1024_S1024_d0_1 h_S_) shapeCasts_S1024_S1x1x1024) (constant S_ .f32 0x00000000#32) reducesTo_S1x1x1024_S1024_d0_1 h_S_) : FVec Ideal S1x1024 .f32) =
    up fun (_ : Fin 1) j => ∑ b, ∑ s, (d.p b s).dh j * (d.p b s).dy j := by
  funext j; idx_vars j
  pointwise [sum_lead, r_v38 R, r_v57 R, up3_ix3, up_ix2]
  simp only [← EReal.coe_mul, coe_sum, Fintype.sum_unique]

end Cert.ReferenceIdeal.Ffn

end
-- ==== Proof.Ffn.Join.lean ====
module

public import proofs.«01_k».proof.Proof.Ffn.Arrays
public import proofs.«01_k».proof.Proof.Ffn.Ref

/-!
The two programs' results on the same real arguments are the same reals.
-/

@[expose] public section

noncomputable section

namespace Cert.Ffn

open Idealize.ShloMosaic Cert.KernelIdeal.Ffn
open scoped BigOperators

variable (d : Data)

theorem loss_eq : (∑ j, ∑ e, running (fun k => term1 (d.row k)) 31 e j) * (1 / 2048)
    = 1 / 2 * ∑ b, ∑ s, (∑ k, (d.p b s).err k * (d.p b s).err k) / 1024 := by
  rw [Finset.sum_congr rfl fun j _ => sum_all d term1 j, Finset.sum_comm, Finset.sum_congr rfl fun b _ => Finset.sum_comm]
  simp only [← Finset.sum_div]
  show (∑ b, ∑ s, ∑ k, (d.p b s).err k * (d.p b s).err k) * (1 / 2048) = _
  ring

theorem dg3_eq (j : Fin 1024) : ∑ e, running (fun k => term2 (d.row k)) 31 e j = ∑ b, ∑ s, nrm (d.h b s) j * (d.p b s).df j := by
  rw [sum_all d term2 j]
  exact Finset.sum_congr rfl fun b _ => Finset.sum_congr rfl fun s _ => mul_comm _ _

theorem dg4_eq (j : Fin 1024) : ∑ e, running (fun k => term3 (d.row k)) 31 e j = ∑ b, ∑ s, (d.p b s).dh j * (d.p b s).dy j := by
  rw [sum_all d term3 j]
  exact Finset.sum_congr rfl fun b _ => Finset.sum_congr rfl fun s _ => mul_comm _ _

end Cert.Ffn

end
-- ==== Proof.Grad.Total.lean ====
module

public import proofs.«01_k».proof.Proof.Ffn.Blocks

/-!
The gradient of a weight matrix as one sum over the rows, and the regrouping of that sum by row blocks.
-/

@[expose] public section

noncomputable section

namespace Cert.Grad

open Idealize.ShloMosaic
open scoped BigOperators

/-- A three-axis array. -/
abbrev Arr (k : ℕ) := (⟨3, ![4, 2048, k]⟩ : Shape).Idx → EReal

/-- Flat row `n` of an array with 2048 positions in each of 4 batch rows. -/
def flat {k : ℕ} (x : Arr k) (n : ℕ) (j : Fin k) : EReal :=
  x (ix3 ⟨n / 2048 % 4, Nat.mod_lt _ (by decide)⟩ ⟨n % 2048, Nat.mod_lt _ (by decide)⟩ j)

/-- The sum over every position of `a` at feature `i` times `f` at feature `j`. -/
def wgrad {k l : ℕ} (a : Arr k) (f : Arr l) (i : Fin k) (j : Fin l) : EReal :=
  ∑ b : Fin 4, ∑ s : Fin 2048, a (ix3 b s i) * f (ix3 b s j)

theorem wgrad_flat {k l : ℕ} (a : Arr k) (f : Arr l) (i : Fin k) (j : Fin l) :
    ∑ n ∈ Finset.range 8192, flat a n i * flat f n j = wgrad a f i j := by
  rw [Finset.sum_range (fun n => flat a n i * flat f n j),
    ← (finProdFinEquiv : Fin 4 × Fin 2048 ≃ Fin (4 * 2048)).sum_comp (fun r : Fin (4 * 2048) => flat a r.val i * flat f r.val j),
    Fintype.sum_prod_type]
  refine Finset.sum_congr rfl fun b _ => Finset.sum_congr rfl fun s _ => ?_
  have hb : (⟨(s.val + 2048 * b.val) / 2048 % 4, Nat.mod_lt _ (by decide)⟩ : Fin 4) = b := Fin.ext (by show (s.val + 2048 * b.val) / 2048 % 4 = b.val; omega)
  have hs : (⟨(s.val + 2048 * b.val) % 2048, Nat.mod_lt _ (by decide)⟩ : Fin 2048) = s := Fin.ext (by show (s.val + 2048 * b.val) % 2048 = s.val; omega)
  show flat a (s.val + 2048 * b.val) i * flat f (s.val + 2048 * b.val) j = _
  unfold flat
  rw [hb, hs]

/-- `q` blocks of 1024 rows. -/
theorem sum_blocks (T : ℕ → EReal) : ∀ q : ℕ,
    ∑ s ∈ Finset.range q, ∑ r : Fin 1024, T (1024 * s + r.val) = ∑ n ∈ Finset.range (1024 * q), T n
  | 0 => rfl
  | q + 1 => by
    rw [Finset.sum_range_succ, sum_blocks T q, Nat.mul_add, Finset.sum_range_add, Finset.sum_range (fun i => T (1024 * q + i))]

end Cert.Grad

end
-- ==== Proof.Grad.Host.lean ====
module

public import proofs.«01_k».proof.Proof.Grad.Total
public import proofs.«01_k».proof.Proof.Gen.Kernel2Ideal.Value

/-!
The arrays the host hands to the weight-gradient kernel.
-/

@[expose] public section

set_option maxRecDepth 16384

noncomputable section

namespace Cert.Kernel2Ideal.Grad

open Cert.Kernel2Ideal Cert.Kernel2Ideal.Gen Cert.Grad
open Idealize.ShloMosaic Idealize.ShloMosaic.TcCoe Idealize.ShloMosaic.StableHlo
open scoped BigOperators

/-- A projection of the normalised rows. -/
def proj (f : FVec Ideal S4x2048x1024 .f32) (w : FVec Ideal S1x1024x2816 .f32) : FVec Ideal S4x2048x2816 .f32 :=
  Host.dotGeneral dot_S4x2048x1024_S1024x2816_S4x2048x2816_2_0_01_1_n_n none f (shapeCast _ w shapeCasts_S1x1024x2816_S1024x2816)

/-- The array of ones. -/
def ones : FVec Ideal S4x2048x2816 .f32 := broadcastInDim S4x2048x2816 ![] bcast_S_S4x2048x2816 (constant S_ .f32 0x3F800000#32)

/-- The logistic function of every entry. -/
def logistic (s : FVec Ideal S4x2048x2816 .f32) : FVec Ideal S4x2048x2816 .f32 :=
  Host.divf ones (addf ones (Host.exp (Host.negf s)))

/-- The gradient of the gate projection `s`, given the other projection `u` and the gradient `g` of their product. -/
def gradGate (s u g : FVec Ideal S4x2048x2816 .f32) : FVec Ideal S4x2048x2816 .f32 :=
  addf (mulf (mulf g u) (logistic s)) (mulf (mulf s (mulf g u)) (mulf (logistic s) (subf ones (logistic s))))

/-- The gradient of the other projection. -/
def gradUp (s g : FVec Ideal S4x2048x2816 .f32) : FVec Ideal S4x2048x2816 .f32 :=
  mulf (mulf s (logistic s)) g

variable (m : (ℓ : Loc nD τ sig) → Buf (Elt Ideal) ℓ)

theorem v10 (c : Dev nD) : V m c main_v10 = fun j =>
    shapeCast S8192x2816 (gradGate (proj (m (c, Proc.devRef .tc main_arg0)) (m (c, Proc.devRef .tc main_arg1)))
      (proj (m (c, Proc.devRef .tc main_arg0)) (m (c, Proc.devRef .tc main_arg2))) (m (c, Proc.devRef .tc main_arg3))) shapeCasts_S4x2048x2816_S8192x2816 j := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append,
    List.nil_append, TRef.binary, TRef.nullary, TRef.unary, TRef.toBuf, TRef.ofBuf, cast_eq]
  after_results_simp
  rfl

theorem v12 (c : Dev nD) : V m c main_v12 = fun j =>
    shapeCast S8192x2816 (gradUp (proj (m (c, Proc.devRef .tc main_arg0)) (m (c, Proc.devRef .tc main_arg1)))
      (m (c, Proc.devRef .tc main_arg3))) shapeCasts_S4x2048x2816_S8192x2816 j := by
  show StableHlo.after (List.flatten [hostOps0, hostOps0_1, hostOps0_2, hostOps0_3, hostOps0_4]) (fun b => m (c, b)) (Proc.devRef .tc main_v12) = _
  simp only [hostOps0, hostOps0_1, hostOps0_2, hostOps0_3, hostOps0_4, List.flatten_cons, List.flatten_nil, List.append_nil, List.cons_append,
    List.nil_append, TRef.binary, TRef.nullary, TRef.unary, TRef.toBuf, TRef.ofBuf, cast_eq]
  after_results_simp
  rfl

theorem v14 (c : Dev nD) : V m c main_v14 = fun j =>
    shapeCast S8192x1024 (m (c, Proc.devRef .tc main_arg0) : FVec Ideal S4x2048x1024 .f32) shapeCasts_S4x2048x1024_S8192x1024 j := by
  show StableHlo.after (List.flatten [hostOps0, hostOps0_1, hostOps0_2, hostOps0_3, hostOps0_4]) (fun b => m (c, b)) (Proc.devRef .tc main_v14) = _
  simp only [hostOps0, hostOps0_1, hostOps0_2, hostOps0_3, hostOps0_4, List.flatten_cons, List.flatten_nil, List.append_nil, List.cons_append,
    List.nil_append, TRef.binary, TRef.nullary, TRef.unary, TRef.toBuf, TRef.ofBuf, cast_eq]
  after_results_simp
  rfl

theorem flat_wide (x : FVec Ideal S4x2048x2816 .f32) (j : S8192x2816.Idx) :
    shapeCast S8192x2816 x shapeCasts_S4x2048x2816_S8192x2816 j = flat x (j 0).val (j 1) := by
  idx_vars j
  pointwise [flat]
  congr 2
  apply Fin.ext
  show j0.val / 2048 = j0.val / 2048 % 4
  omega

theorem flat_narrow (x : FVec Ideal S4x2048x1024 .f32) (j : S8192x1024.Idx) :
    shapeCast S8192x1024 x shapeCasts_S4x2048x1024_S8192x1024 j = flat x (j 0).val (j 1) := by
  idx_vars j
  pointwise [flat]
  congr 2
  apply Fin.ext
  show j0.val / 2048 = j0.val / 2048 % 4
  omega

theorem pay4 (x0 : FVec Ideal S1024x1024 .bf16) (acc : FVec Ideal S1408x1024 .f32) (x1 : FVec Ideal S1024x1408 .bf16) (j : S1408x1024.Idx) :
    k0_pay4 (F := Ideal) x0 acc x1 j = acc j + ∑ k : Fin 1024, x1 (ix2 k (j 0)) * x0 (ix2 k (j 1)) := by
  idx_vars j
  pointwise [k0_pay4, k0_pay3]

theorem pay5 (x0 : FVec Ideal S1024x1024 .bf16) (acc : FVec Ideal S1408x1024 .f32) (x1 : FVec Ideal S1024x1408 .bf16) (j : S1408x1024.Idx) :
    k0_pay5 (F := Ideal) x0 acc x1 j = acc j + ∑ k : Fin 1024, x1 (ix2 k (j 0)) * x0 (ix2 k (j 1)) := by
  exact pay4 x0 acc x1 j

end Cert.Kernel2Ideal.Grad

end
-- ==== Proof.Grad.Fold.lean ====
module

public import proofs.«01_k».proof.Proof.Grad.Host

/-!
What the weight-gradient kernel leaves in its two outputs: the eight points of a run add up the products of eight blocks
of rows, and a run holds one half of the columns of the activation gradient.
-/

@[expose] public section

set_option maxRecDepth 16384

noncomputable section

namespace Cert.Kernel2Ideal.Grad

open Cert.Kernel2Ideal Cert.Kernel2Ideal.Gen Cert.Kernel2Ideal.Value Cert.Grad
open Idealize.ShloMosaic Idealize.ShloMosaic.TcCoe
open scoped BigOperators

/-- Which blocks a point sees: row block `t % 8`, column block `t / 8`. -/
theorem index_rows : ∀ t : Fin cfg0.N, (win0_0.index t 0 = t.val % 8 ∧ win0_0.index t 1 = 0) ∧
    (win0_1.index t 0 = t.val % 8 ∧ win0_1.index t 1 = t.val / 8) ∧ (win0_2.index t 0 = t.val % 8 ∧ win0_2.index t 1 = t.val / 8) :=
  (by decide +kernel : ∀ t : Fin grid0.N, _)

/-- Column `j` of column block `n / 8`. -/
def col (n : ℕ) (j : Fin 1408) : Fin 2816 := ⟨(n / 8 % 2) * 1408 + j.val, by have := j.isLt; omega⟩

variable (m : (ℓ : Loc nD τ sig) → Buf (Elt Ideal) ℓ)

theorem cut_0 (c : Dev nD) (t : Fin cfg0.N) (x : Arr 1024) (h : V m c main_v14 = fun j : S8192x1024.Idx => flat x (j 0).val (j 1)) :
    iblk m c 0 t = fun j : S1024x1024.Idx => flat x (1024 * (t.val % 8) + (j 0).val) (j 1) := by
  have hi := (index_rows t).1
  funext j
  unfold iblk
  rw [View.read_apply]
  show V m c main_v14 _ = _
  rw [h]
  refine congr (congrArg (flat x) ?_) (Fin.ext ?_)
  · show win0_0.index t 0 * 1024 + 1 * (j 0).val = 1024 * (t.val % 8) + (j 0).val; rw [hi.1]; omega
  · show win0_0.index t 1 * 1024 + 1 * (j 1).val = (j 1).val; rw [hi.2]; omega

theorem cut_1 (c : Dev nD) (t : Fin cfg0.N) (x : Arr 2816) (h : V m c main_v10 = fun j : S8192x2816.Idx => flat x (j 0).val (j 1)) :
    iblk m c 1 t = fun j : S1024x1408.Idx => flat x (1024 * (t.val % 8) + (j 0).val) (col t.val (j 1)) := by
  have hi := (index_rows t).2.1
  have ht : t.val < 16 := lt_of_lt_of_eq t.isLt (show cfg0.N = 16 from N_0)
  funext j
  unfold iblk
  rw [View.read_apply]
  show V m c main_v10 _ = _
  rw [h]
  refine congr (congrArg (flat x) ?_) (Fin.ext ?_)
  · show win0_1.index t 0 * 1024 + 1 * (j 0).val = 1024 * (t.val % 8) + (j 0).val; rw [hi.1]; omega
  · show win0_1.index t 1 * 1408 + 1 * (j 1).val = (t.val / 8 % 2) * 1408 + (j 1).val; rw [hi.2]; omega

theorem cut_2 (c : Dev nD) (t : Fin cfg0.N) (x : Arr 2816) (h : V m c main_v12 = fun j : S8192x2816.Idx => flat x (j 0).val (j 1)) :
    iblk m c 2 t = fun j : S1024x1408.Idx => flat x (1024 * (t.val % 8) + (j 0).val) (col t.val (j 1)) := by
  have hi := (index_rows t).2.2
  have ht : t.val < 16 := lt_of_lt_of_eq t.isLt (show cfg0.N = 16 from N_0)
  funext j
  unfold iblk
  rw [View.read_apply]
  show V m c main_v12 _ = _
  rw [h]
  refine congr (congrArg (flat x) ?_) (Fin.ext ?_)
  · show win0_2.index t 0 * 1024 + 1 * (j 0).val = 1024 * (t.val % 8) + (j 0).val; rw [hi.1]; omega
  · show win0_2.index t 1 * 1408 + 1 * (j 1).val = (t.val / 8 % 2) * 1408 + (j 1).val; rw [hi.2]; omega

/-- The part of the sum that the rows of point `n` make. -/
def part (a : Arr 2816) (f : Arr 1024) (n : ℕ) (j : S1408x1024.Idx) : EReal :=
  ∑ r : Fin 1024, flat a (1024 * (n % 8) + r.val) (col n (j 0)) * flat f (1024 * (n % 8) + r.val) (j 1)

/-- The part every point of a run adds to what the one before left, from zero on, makes the whole sum. -/
theorem fold {N : ℕ} (a : Arr 2816) (f : Arr 1024) (reset : (n : ℕ) → n < N → FVec Ideal S1408x1024 .f32)
    (step : (n : ℕ) → n < N → FVec Ideal S1408x1024 .f32 → FVec Ideal S1408x1024 .f32)
    (hr : ∀ n h j, reset n h j = 0 + part a f n j) (hs : ∀ n h acc j, step n h acc j = acc j + part a f n j)
    (i : S2816x1024.Idx) (q : ℕ) (hq : q = (i 0).val / 1408) (y : S1408x1024.Idx) (hy0 : (y 0).val = (i 0).val % 1408) (hy1 : (y 1).val = (i 1).val)
    (h : 8 * q + 7 < N) : Pipeline.accAt reset step (8 * q) 7 h y = wgrad a f (i 0) (i 1) := by
  have hi0 : (i 0).val < 2816 := (i 0).isLt
  rw [Pipeline.accAt_add_apply reset step (fun _ => 0) (part a f) (8 * q) 7 (fun h j => hr _ h j) (fun n h acc j _ _ => hs n h acc j) 7 le_rfl h y,
    zero_add, ← wgrad_flat a f (i 0) (i 1), ← sum_blocks (fun n => flat a n (i 0) * flat f n (i 1)) 8]
  refine Finset.sum_congr rfl fun s hs' => Finset.sum_congr rfl fun r _ => ?_
  have hlt : s < 8 := Finset.mem_range.mp hs'
  have e : (8 * q + s) % 8 = s := by omega
  have ec : col (8 * q + s) (y 0) = i 0 := Fin.ext (by
    show ((8 * q + s) / 8 % 2) * 1408 + (y 0).val = (i 0).val
    omega)
  have ed : y 1 = i 1 := Fin.ext hy1
  show flat a (1024 * ((8 * q + s) % 8) + r.val) (col (8 * q + s) (y 0)) * flat f (1024 * ((8 * q + s) % 8) + r.val) (y 1) = _
  rw [e, ec, ed]

variable (c : Dev nD) (a : Arr 2816) (f : Arr 1024)

theorem last_point (i : S2816x1024.Idx) : 8 * run3Of i + 7 < cfg0.N := by
  have hi0 : (i 0).val < 2816 := (i 0).isLt
  have hi1 : (i 1).val < 1024 := (i 1).isLt
  have hN : cfg0.N = 16 := N_0
  rw [hN]
  show 8 * (1 * ((i 0).val / 1408 - 0) + 1 * ((i 1).val / 1024 - 0)) + 7 < 16
  omega

theorem run_of (i : S2816x1024.Idx) : run3Of i = (i 0).val / 1408 := by
  have hi1 : (i 1).val < 1024 := (i 1).isLt
  show 1 * ((i 0).val / 1408 - 0) + 1 * ((i 1).val / 1024 - 0) = _
  omega

theorem first (hf : V m c main_v14 = fun j : S8192x1024.Idx => flat f (j 0).val (j 1))
    (ha : V m c main_v10 = fun j : S8192x2816.Idx => flat a (j 0).val (j 1)) : G3 m c = fun i => wgrad a f (i 0) (i 1) := by
  funext i
  have hs : ∀ n h acc j, step3 m c n h acc j = acc j + part a f n j := fun n h acc j => by
    unfold step3
    rw [pay4, cut_0 m c ⟨n, h⟩ f hf, cut_1 m c ⟨n, h⟩ a ha]
    rfl
  have hr : ∀ n h j, reset3 m c n h j = 0 + part a f n j := fun n h j => by
    have z : k0_pay1 (F := Ideal) j = 0 := by idx_vars j; pointwise [k0_pay1]
    exact (hs n h _ j).trans (congrArg (· + part a f n j) z)
  have h1 : (i 1).val < 1024 := (i 1).isLt
  unfold G3
  rw [dif_pos (last_point i)]
  exact fold a f _ _ hr hs i _ (run_of i) _ rfl (Nat.mod_eq_of_lt h1) _

theorem second (hf : V m c main_v14 = fun j : S8192x1024.Idx => flat f (j 0).val (j 1))
    (ha : V m c main_v12 = fun j : S8192x2816.Idx => flat a (j 0).val (j 1)) : G4 m c = fun i => wgrad a f (i 0) (i 1) := by
  funext i
  have hs : ∀ n h acc j, step4 m c n h acc j = acc j + part a f n j := fun n h acc j => by
    unfold step4
    rw [pay5, cut_0 m c ⟨n, h⟩ f hf, cut_2 m c ⟨n, h⟩ a ha]
    rfl
  have hr : ∀ n h j, reset4 m c n h j = 0 + part a f n j := fun n h j => by
    have z : k0_pay2 (F := Ideal) j = 0 := by idx_vars j; pointwise [k0_pay2]
    exact (hs n h _ j).trans (congrArg (· + part a f n j) z)
  have h1 : (i 1).val < 1024 := (i 1).isLt
  unfold G4
  rw [dif_pos (last_point i)]
  exact fold a f _ _ hr hs i _ (run_of i) _ rfl (Nat.mod_eq_of_lt h1) _

/-- The first result: the gradient of the gate weights. -/
theorem gate_grad : G3 m c = fun i => wgrad (gradGate (proj (m (c, Proc.devRef .tc main_arg0)) (m (c, Proc.devRef .tc main_arg1)))
    (proj (m (c, Proc.devRef .tc main_arg0)) (m (c, Proc.devRef .tc main_arg2))) (m (c, Proc.devRef .tc main_arg3)))
    (m (c, Proc.devRef .tc main_arg0) : FVec Ideal S4x2048x1024 .f32) (i 0) (i 1) :=
  first m c _ _ ((v14 m c).trans (funext fun j => flat_narrow _ j)) ((v10 m c).trans (funext fun j => flat_wide _ j))

/-- The second: the gradient of the other projection's weights. -/
theorem up_grad : G4 m c = fun i => wgrad (gradUp (proj (m (c, Proc.devRef .tc main_arg0)) (m (c, Proc.devRef .tc main_arg1)))
    (m (c, Proc.devRef .tc main_arg3))) (m (c, Proc.devRef .tc main_arg0) : FVec Ideal S4x2048x1024 .f32) (i 0) (i 1) :=
  second m c _ _ ((v14 m c).trans (funext fun j => flat_narrow _ j)) ((v12 m c).trans (funext fun j => flat_wide _ j))

end Cert.Kernel2Ideal.Grad

end
-- ==== Proof.Grad.Ref.lean ====
module

public import proofs.«01_k».proof.Proof.Grad.Total
public import proofs.«01_k».proof.Proof.Gen.Reference2Ideal.Run

/-!
The reference's weight gradient at an entry.
-/

@[expose] public section

set_option maxRecDepth 16384

noncomputable section

namespace Cert.Reference2Ideal.Grad

open Cert.Reference2Ideal Cert.Reference2Ideal.Gen Cert.Grad
open Idealize.ShloMosaic Idealize.ShloMosaic.TcCoe
open scoped BigOperators

theorem read (a : FVec Ideal S4x2048x2816 .f32) (f : FVec Ideal S4x2048x1024 .f32) (j : S2816x1024.Idx) :
    transpose S2816x1024 [1, 0] (shapeCast S1024x2816 (broadcastInDim S1x1024x2816 ![1, 2] bcast_S1024x2816_S1x1024x2816_1_2
      (transpose S1024x2816 [1, 0] (Host.dotGeneral dot_S4x2048x2816_S4x2048x1024_S2816x1024_01_01_2_2_n_n none a f)
        transposes_S2816x1024_S1024x2816_1_0)) shapeCasts_S1x1024x2816_S1024x2816) transposes_S1024x2816_S2816x1024_1_0 j
      = wgrad a f (j 0) (j 1) := by
  idx_vars j
  pointwise [wgrad]

end Cert.Reference2Ideal.Grad

end
-- ==== Proof.Adam.Update.lean ====
module

public import proofs.«01_k».proof.Proof.Gen.Kernel3Ideal.Skeleton
public import Idealize.ShloMosaic.Lib.Pipeline.Value
public import Idealize.ShloMosaic.PureOps.Ideal

/-!
One optimiser step of an array, and the kernel's stored values as that step.
-/

@[expose] public section

noncomputable section

namespace Cert.Adam

open Idealize.ShloMosaic

variable {S : Shape}

/-- The same number everywhere. -/
def every (b : BitVec 32) : FVec Ideal S .f32 := fun _ => Scalar.ofBits .f32 b

/-- The running mean of the gradients. -/
def mean (g m : FVec Ideal S .f32) : FVec Ideal S .f32 :=
  addf (mulf (every 0x3F666666#32) m) (mulf (every 0x3DCCCCCD#32) g)

/-- The running mean of their squares. -/
def meanSq (g v : FVec Ideal S .f32) : FVec Ideal S .f32 :=
  addf (mulf (every 0x3F7FBE77#32) v) (mulf (every 0x3A83126F#32) (mulf g g))

/-- The change of the weight. -/
def change (w g m v : FVec Ideal S .f32) : FVec Ideal S .f32 :=
  mulf (every 0xBA83126F#32) (addf (divf (divf (mean g m) (every 0x3F26BD02#32))
    (addf (sqrt (divf (meanSq g v) (every 0x3C231ACC#32))) (every 0x322BCC77#32))) (mulf (every 0x3C23D70A#32) w))

end Cert.Adam

namespace Cert.Kernel3Ideal.Adam

open Cert.Kernel3Ideal Cert.Kernel3Ideal.Gen Cert.Adam Idealize.ShloMosaic

variable (w g m v : FVec Ideal S176x1024 .f32)

theorem pay1 : k0_pay1 (F := Ideal) g = g := shapeCast_self _ _
theorem pay2 : k0_pay2 (F := Ideal) g m = mean g m := by unfold k0_pay2; simp only [pay1, shapeCast_self]; rfl
theorem pay3 : k0_pay3 (F := Ideal) g v = meanSq g v := by unfold k0_pay3; simp only [pay1, shapeCast_self]; rfl
theorem pay4 : k0_pay4 (F := Ideal) g w m v = change w g m v := by unfold k0_pay4; simp only [pay2, pay3, shapeCast_self]; rfl

/- The second and third weight go through the same expressions. -/
theorem pay5 : k0_pay5 (F := Ideal) g = g := pay1 g
theorem pay6 : k0_pay6 (F := Ideal) g m = mean g m := pay2 g m
theorem pay7 : k0_pay7 (F := Ideal) g v = meanSq g v := pay3 g v
theorem pay8 : k0_pay8 (F := Ideal) g w m v = change w g m v := pay4 w g m v
theorem pay9 : k0_pay9 (F := Ideal) g = g := pay1 g
theorem pay10 : k0_pay10 (F := Ideal) g m = mean g m := pay2 g m
theorem pay11 : k0_pay11 (F := Ideal) g v = meanSq g v := pay3 g v
theorem pay12 : k0_pay12 (F := Ideal) g w m v = change w g m v := pay4 w g m v

end Cert.Kernel3Ideal.Adam

end
-- ==== Proof.Adam.Arrays.lean ====
module

public import proofs.«01_k».proof.Proof.Adam.Update
public import proofs.«01_k».proof.Proof.Ffn.Blocks
public import proofs.«01_k».proof.Proof.Gen.Kernel3Ideal.Value

/-!
The arrays the optimiser kernel leaves. All its windows move alike: what a point writes back is the step of the arrays,
read through the point's rows.
-/

@[expose] public section

set_option maxRecDepth 16384

noncomputable section

namespace Cert.Kernel3Ideal.Adam

open Cert.Kernel3Ideal Cert.Kernel3Ideal.Gen Cert.Kernel3Ideal.Value Cert.Adam
open Idealize.ShloMosaic Idealize.ShloMosaic.TcCoe Idealize.SL.Sem

theorem hz : (![0, 0] : Fin 2 → Nat) = fun _ => 0 := funext fun a => by fin_cases a <;> rfl

/-- One store of the whole block leaves what is stored. -/
theorem stored (x : Vec Ideal S176x1024 .f32) : View.canon [⟨r0_0, x⟩] = x := View.canon_unit_zero (S := S176x1024) hz _ x

/-- A load of the whole block is the block. -/
theorem loaded (x : Vec Ideal S176x1024 .f32) : View.ld x r0_0 = x := View.ld_unit_zero (S := S176x1024) hz _ x

/-- Point `t` writes the 176 rows from `176 * t` on. -/
theorem index_rows : ∀ t : Fin cfg0.N, win0_12.index t 0 = t.val ∧ win0_12.index t 1 = 0 := (by decide +kernel : ∀ t : Fin grid0.N, _)

/-- Every entry lies in the rows of a point. -/
theorem covered (i : S704x1024.Idx) : ∃ t : Fin cfg0.N, (cfg0.win 12).flush t = true ∧ i ∈ ((cfg0.win 12).blk t).view.set := by
  have h0 : (i 0).val < 704 := (i 0).isLt
  have h1 : (i 1).val < 1024 := (i 1).isLt
  have hN : cfg0.N = 4 := N_0
  let t : Fin cfg0.N := ⟨(i 0).val / 176, by rw [hN]; omega⟩
  have e : ((cfg0.win 12).blk t).view.emb (ix2 (⟨(i 0).val % 176, Nat.mod_lt _ (by decide)⟩ : Fin 176) (⟨(i 1).val, h1⟩ : Fin 1024) : S176x1024.Idx) = i := by
    funext a; apply Fin.ext
    match a with
    | ⟨0, _⟩ =>
      show win0_12.index t 0 * 176 + 1 * ((i 0).val % 176) = (i 0).val
      rw [(index_rows t).1]; show (i 0).val / 176 * 176 + 1 * ((i 0).val % 176) = (i 0).val; omega
    | ⟨1, _⟩ =>
      show win0_12.index t 1 * 1024 + 1 * (i 1).val = (i 1).val
      rw [(index_rows t).2]; omega
  exact ⟨t, flush0_12 t, e ▸ View.emb_mem_set _ _⟩

variable (m : (ℓ : Loc nD τ sig) → Buf (Elt Ideal) ℓ) (c : Dev nD)

theorem a12 : (dats m 0 c).arrAt 12 cfg0.N = V m c main_v3 :=
  (dats m 0 c).arrAt_eq_of_cover 12 _ (fun t _ => (flushed12 m c t).trans (by unfold out0_12; simp only [stored, loaded]; rw [pay1]; rfl)) covered

theorem a13 : (dats m 0 c).arrAt 13 cfg0.N = change (V m c main_v1) (V m c main_v3) (V m c main_v5) (V m c main_v7) :=
  (dats m 0 c).arrAt_eq_of_cover 13 _ (fun t _ => (flushed13 m c t).trans (by unfold out0_13; simp only [stored, loaded]; rw [pay4]; rfl)) covered

theorem a14 : (dats m 0 c).arrAt 14 cfg0.N = mean (V m c main_v3) (V m c main_v5) :=
  (dats m 0 c).arrAt_eq_of_cover 14 _ (fun t _ => (flushed14 m c t).trans (by unfold out0_14; simp only [stored, loaded]; rw [pay2]; rfl)) covered

theorem a15 : (dats m 0 c).arrAt 15 cfg0.N = meanSq (V m c main_v3) (V m c main_v7) :=
  (dats m 0 c).arrAt_eq_of_cover 15 _ (fun t _ => (flushed15 m c t).trans (by unfold out0_15; simp only [stored, loaded]; rw [pay3]; rfl)) covered

theorem a16 : (dats m 0 c).arrAt 16 cfg0.N = V m c main_v11 :=
  (dats m 0 c).arrAt_eq_of_cover 16 _ (fun t _ => (flushed16 m c t).trans (by unfold out0_16; simp only [stored, loaded]; rw [pay5]; rfl)) covered

theorem a17 : (dats m 0 c).arrAt 17 cfg0.N = change (V m c main_v9) (V m c main_v11) (V m c main_v13) (V m c main_v15) :=
  (dats m 0 c).arrAt_eq_of_cover 17 _ (fun t _ => (flushed17 m c t).trans (by unfold out0_17; simp only [stored, loaded]; rw [pay8]; rfl)) covered

theorem a18 : (dats m 0 c).arrAt 18 cfg0.N = mean (V m c main_v11) (V m c main_v13) :=
  (dats m 0 c).arrAt_eq_of_cover 18 _ (fun t _ => (flushed18 m c t).trans (by unfold out0_18; simp only [stored, loaded]; rw [pay6]; rfl)) covered

theorem a19 : (dats m 0 c).arrAt 19 cfg0.N = meanSq (V m c main_v11) (V m c main_v15) :=
  (dats m 0 c).arrAt_eq_of_cover 19 _ (fun t _ => (flushed19 m c t).trans (by unfold out0_19; simp only [stored, loaded]; rw [pay7]; rfl)) covered

theorem a20 : (dats m 0 c).arrAt 20 cfg0.N = V m c main_v17 :=
  (dats m 0 c).arrAt_eq_of_cover 20 _ (fun t _ => (flushed20 m c t).trans (by unfold out0_20; simp only [stored, loaded]; rw [pay9]; rfl)) covered

theorem a21 : (dats m 0 c).arrAt 21 cfg0.N = change (V m c main_v16) (V m c main_v17) (V m c main_v18) (V m c main_v19) :=
  (dats m 0 c).arrAt_eq_of_cover 21 _ (fun t _ => (flushed21 m c t).trans (by unfold out0_21; simp only [stored, loaded]; rw [pay12]; rfl)) covered

theorem a22 : (dats m 0 c).arrAt 22 cfg0.N = mean (V m c main_v17) (V m c main_v18) :=
  (dats m 0 c).arrAt_eq_of_cover 22 _ (fun t _ => (flushed22 m c t).trans (by unfold out0_22; simp only [stored, loaded]; rw [pay10]; rfl)) covered

theorem a23 : (dats m 0 c).arrAt 23 cfg0.N = meanSq (V m c main_v17) (V m c main_v19) :=
  (dats m 0 c).arrAt_eq_of_cover 23 _ (fun t _ => (flushed23 m c t).trans (by unfold out0_23; simp only [stored, loaded]; rw [pay11]; rfl)) covered

/-- A matrix with its unit axis dropped and its other axes swapped. -/
def swap (x : FVec Ideal S1x1024x704 .f32) : FVec Ideal S704x1024 .f32 :=
  transpose S704x1024 [1, 0] (shapeCast S1024x704 x shapeCasts_S1x1024x704_S1024x704) transposes_S1024x704_S704x1024_1_0

/-- A matrix with its unit axis dropped. -/
def drop (x : FVec Ideal S1x704x1024 .f32) : FVec Ideal S704x1024 .f32 := shapeCast S704x1024 x shapeCasts_S1x704x1024_S704x1024

theorem v1 : V m c main_v1 = swap (m ((c.tc : Thread nD τ).loc main_arg0)) := by
  simp only [V, hostOps0]; after_results_simp; rfl
theorem v3 : V m c main_v3 = swap (m ((c.tc : Thread nD τ).loc main_arg1)) := by
  simp only [V, hostOps0]; after_results_simp; rfl
theorem v5 : V m c main_v5 = swap (m ((c.tc : Thread nD τ).loc main_arg2)) := by
  simp only [V, hostOps0]; after_results_simp; rfl
theorem v7 : V m c main_v7 = swap (m ((c.tc : Thread nD τ).loc main_arg3)) := by
  simp only [V, hostOps0]; after_results_simp; rfl
theorem v9 : V m c main_v9 = swap (m ((c.tc : Thread nD τ).loc main_arg4)) := by
  simp only [V, hostOps0]; after_results_simp; rfl
theorem v11 : V m c main_v11 = swap (m ((c.tc : Thread nD τ).loc main_arg5)) := by
  simp only [V, hostOps0]; after_results_simp; rfl
theorem v13 : V m c main_v13 = swap (m ((c.tc : Thread nD τ).loc main_arg6)) := by
  simp only [V, hostOps0]; after_results_simp; rfl
theorem v15 : V m c main_v15 = swap (m ((c.tc : Thread nD τ).loc main_arg7)) := by
  simp only [V, hostOps0]; after_results_simp; rfl
theorem v16 : V m c main_v16 = drop (m ((c.tc : Thread nD τ).loc main_arg8)) := by
  simp only [V, hostOps0]; after_results_simp; rfl
theorem v17 : V m c main_v17 = drop (m ((c.tc : Thread nD τ).loc main_arg9)) := by
  simp only [V, hostOps0]; after_results_simp; rfl
theorem v18 : V m c main_v18 = drop (m ((c.tc : Thread nD τ).loc main_arg10)) := by
  simp only [V, hostOps0]; after_results_simp; rfl
theorem v19 : V m c main_v19 = drop (m ((c.tc : Thread nD τ).loc main_arg11)) := by
  simp only [V, hostOps0]; after_results_simp; rfl

variable (ρ : Dev nD → PrngReg)

set_option maxHeartbeats 4000000 in
/-- What the kernel leaves. -/
theorem run : θ_run defs (onTc (τ := τ) (main (F := Ideal))) ⟨m, fun _ => 0, ρ⟩ fun r => ∀ c : Dev nD,
    let a := fun b : Ref sig .tc => m ((c.tc : Thread nD τ).loc b)
    let z := fun b : Ref sig .tc => r.2.mem ((c.tc : Thread nD τ).loc b)
    z main_v20_0 = swap (a main_arg1)
      ∧ z main_v20_1 = change (swap (a main_arg0)) (swap (a main_arg1)) (swap (a main_arg2)) (swap (a main_arg3))
      ∧ z main_v20_2 = mean (swap (a main_arg1)) (swap (a main_arg2))
      ∧ z main_v20_3 = meanSq (swap (a main_arg1)) (swap (a main_arg3))
      ∧ z main_v20_4 = swap (a main_arg5)
      ∧ z main_v20_5 = change (swap (a main_arg4)) (swap (a main_arg5)) (swap (a main_arg6)) (swap (a main_arg7))
      ∧ z main_v20_6 = mean (swap (a main_arg5)) (swap (a main_arg6))
      ∧ z main_v20_7 = meanSq (swap (a main_arg5)) (swap (a main_arg7))
      ∧ z main_v20_8 = drop (a main_arg9)
      ∧ z main_v20_9 = change (drop (a main_arg8)) (drop (a main_arg9)) (drop (a main_arg10)) (drop (a main_arg11))
      ∧ z main_v20_10 = mean (drop (a main_arg9)) (drop (a main_arg10))
      ∧ z main_v20_11 = meanSq (drop (a main_arg9)) (drop (a main_arg11))
      ∧ z main_arg0 = a main_arg0 ∧ z main_arg1 = a main_arg1 ∧ z main_arg2 = a main_arg2 ∧ z main_arg3 = a main_arg3 ∧ z main_arg4 = a main_arg4 ∧ z main_arg5 = a main_arg5 ∧ z main_arg6 = a main_arg6 ∧ z main_arg7 = a main_arg7 ∧ z main_arg8 = a main_arg8 ∧ z main_arg9 = a main_arg9 ∧ z main_arg10 = a main_arg10 ∧ z main_arg11 = a main_arg11 :=
  (θ_run defs _ _).mono (fun r h c => by
    obtain ⟨g0, d0, m0, s0, g1, d1, m1, s1, g2, d2, m2, s2, rest⟩ := h c
    exact ⟨g0.trans ((a12 m c).trans (v3 m c)),
      d0.trans ((a13 m c).trans (congr (congr (congr (congrArg change (v1 m c)) (v3 m c)) (v5 m c)) (v7 m c))),
      m0.trans ((a14 m c).trans (congr (congrArg mean (v3 m c)) (v5 m c))),
      s0.trans ((a15 m c).trans (congr (congrArg meanSq (v3 m c)) (v7 m c))),
      g1.trans ((a16 m c).trans (v11 m c)),
      d1.trans ((a17 m c).trans (congr (congr (congr (congrArg change (v9 m c)) (v11 m c)) (v13 m c)) (v15 m c))),
      m1.trans ((a18 m c).trans (congr (congrArg mean (v11 m c)) (v13 m c))),
      s1.trans ((a19 m c).trans (congr (congrArg meanSq (v11 m c)) (v15 m c))),
      g2.trans ((a20 m c).trans (v17 m c)),
      d2.trans ((a21 m c).trans (congr (congr (congr (congrArg change (v16 m c)) (v17 m c)) (v18 m c)) (v19 m c))),
      m2.trans ((a22 m c).trans (congr (congrArg mean (v17 m c)) (v18 m c))),
      s2.trans ((a23 m c).trans (congr (congrArg meanSq (v17 m c)) (v19 m c))), rest⟩) (run_blocks m ρ)

end Cert.Kernel3Ideal.Adam

end
-- ==== Proof.Adam.Ref.lean ====
module

public import proofs.«01_k».proof.Proof.Adam.Update
public import proofs.«01_k».proof.Proof.Gen.Reference3Ideal.Run

/-!
The reference's optimiser step, seen through a reindexing of its arrays.
-/

@[expose] public section

noncomputable section

namespace Cert.Reference3Ideal.Adam

open Cert.Reference3Ideal Cert.Reference3Ideal.Gen Cert.Adam
open Idealize.ShloMosaic Idealize.ShloMosaic.TcCoe

/-- A matrix with its unit axis dropped and its other axes swapped. -/
def swap (x : FVec Ideal S1x1024x704 .f32) : FVec Ideal S704x1024 .f32 :=
  transpose S704x1024 [1, 0] (shapeCast S1024x704 x shapeCasts_S1x1024x704_S1024x704) transposes_S1024x704_S704x1024_1_0

/-- A matrix with its unit axis dropped. -/
def drop (x : FVec Ideal S1x704x1024 .f32) : FVec Ideal S704x1024 .f32 := shapeCast S704x1024 x shapeCasts_S1x704x1024_S704x1024

theorem swap_mean (g m : FVec Ideal S1x1024x704 .f32) : swap (mean g m) = mean (swap g) (swap m) := rfl
theorem swap_meanSq (g v : FVec Ideal S1x1024x704 .f32) : swap (meanSq g v) = meanSq (swap g) (swap v) := rfl
theorem swap_change (w g m v : FVec Ideal S1x1024x704 .f32) : swap (change w g m v) = change (swap w) (swap g) (swap m) (swap v) := rfl
theorem drop_mean (g m : FVec Ideal S1x704x1024 .f32) : drop (mean g m) = mean (drop g) (drop m) := rfl
theorem drop_meanSq (g v : FVec Ideal S1x704x1024 .f32) : drop (meanSq g v) = meanSq (drop g) (drop v) := rfl
theorem drop_change (w g m v : FVec Ideal S1x704x1024 .f32) : drop (change w g m v) = change (drop w) (drop g) (drop m) (drop v) := rfl

variable (m : (ℓ : Loc nD τ sig) → Buf (Elt Ideal) ℓ) (ρ : Dev nD → PrngReg)

/-- What the reference leaves. -/
theorem run : θ_run defs (onTc (τ := τ) (main (F := Ideal))) ⟨m, fun _ => 0, ρ⟩ fun r => ∀ c : Dev nD,
    let a := fun b : Ref sig .tc => m ((c.tc : Thread nD τ).loc b)
    let z := fun b : Ref sig .tc => r.2.mem ((c.tc : Thread nD τ).loc b)
    z main_v73 = swap (a main_arg1) ∧ z main_v75 = change (swap (a main_arg0)) (swap (a main_arg1)) (swap (a main_arg2)) (swap (a main_arg3))
      ∧ z main_v77 = mean (swap (a main_arg1)) (swap (a main_arg2)) ∧ z main_v79 = meanSq (swap (a main_arg1)) (swap (a main_arg3))
      ∧ z main_v81 = swap (a main_arg5) ∧ z main_v83 = change (swap (a main_arg4)) (swap (a main_arg5)) (swap (a main_arg6)) (swap (a main_arg7))
      ∧ z main_v85 = mean (swap (a main_arg5)) (swap (a main_arg6)) ∧ z main_v87 = meanSq (swap (a main_arg5)) (swap (a main_arg7))
      ∧ z main_v88 = drop (a main_arg9) ∧ z main_v89 = change (drop (a main_arg8)) (drop (a main_arg9)) (drop (a main_arg10)) (drop (a main_arg11))
      ∧ z main_v90 = mean (drop (a main_arg9)) (drop (a main_arg10)) ∧ z main_v91 = meanSq (drop (a main_arg9)) (drop (a main_arg11))
      ∧ z main_arg0 = a main_arg0 ∧ z main_arg1 = a main_arg1 ∧ z main_arg2 = a main_arg2 ∧ z main_arg3 = a main_arg3
      ∧ z main_arg4 = a main_arg4 ∧ z main_arg5 = a main_arg5 ∧ z main_arg6 = a main_arg6 ∧ z main_arg7 = a main_arg7
      ∧ z main_arg8 = a main_arg8 ∧ z main_arg9 = a main_arg9 ∧ z main_arg10 = a main_arg10 ∧ z main_arg11 = a main_arg11 :=
  (θ_run defs _ _).mono (fun r h c => by
    obtain ⟨a0, a1, a2, a3, b0, b1, b2, b3, c0, c1, c2, c3, rest⟩ := h c
    exact ⟨a0, a1, a2, a3, b0, b1, b2, b3, c0, c1, c2, c3, rest⟩) (Cert.Reference3Ideal.Value.run m ρ)

end Cert.Reference3Ideal.Adam

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Ffn.Frame
public import proofs.«01_k».proof.Proof.Ffn.Finite
public import proofs.«01_k».proof.Proof.Ffn.Join
public import proofs.«01_k».proof.Proof.Grad.Fold
public import proofs.«01_k».proof.Proof.Grad.Ref
public import proofs.«01_k».proof.Proof.Adam.Arrays
public import proofs.«01_k».proof.Proof.Adam.Ref
public import Idealize.ShloMosaic.Lib.Claim
public import Idealize.ShloMosaic.Lib.Quiescent
public import Idealize.ShloMosaic.Lib.Tactic
public import Idealize.ShloMosaic.Lib.StableHlo.RunHlo
public import Idealize.ShloMosaic.Adequacy
public import Idealize.ShloMosaic.Init

@[expose] public section

noncomputable section

namespace Cert.Proof

open Idealize.ShloMosaic Idealize.SL.Sem Cert.Kernel
open scoped BigOperators

/-- The two kernel programs have the same text: the frame over bits is the other's, read at bits. -/
theorem frame_kernel : quiescent_Kernel (hKernel := Cert.Kernel.Gen.facts) :=
  fun m ρ _ => cast (by sl_kernel_rfl) (Cert.KernelIdeal.Ffn.frame (F := Bits) m ρ)

theorem frame_ideal : quiescent_KernelIdeal (hKernelIdeal := Cert.KernelIdeal.Gen.facts) :=
  fun m ρ _ => Cert.KernelIdeal.Ffn.frame m ρ

theorem frame_reference : quiescent_ReferenceIdeal (hReferenceIdeal := Cert.ReferenceIdeal.Gen.facts) := by
  intro m ρ _; hlo_run
  · exact fun _ => by simp
  · exact sem_eq_zero_of_no_sems (sig := Cert.ReferenceIdeal.sig) (by decide) _

/-- The side conditions of the precondition's own operations. -/
theorem facts_finite : Cert.Pre_finite.Facts := by constructor <;> decide

theorem values : algebraic_KernelIdeal_ReferenceIdeal_pre_finite (hKernelIdeal := Cert.KernelIdeal.Gen.facts)
    (hReferenceIdeal := Cert.ReferenceIdeal.Gen.facts) (hPre_finite := facts_finite) := by
  haveI := facts_finite
  intro m g m' g' hp ha
  have hd : ∀ c, ∃ d, Cert.KernelIdeal.Ffn.Args m c d := fun c => by
    obtain ⟨d, h0, h1, h2, h3, h4, h5, h6⟩ := Cert.Ffn.data_of_finite _ _ _ _ _ _ _ (hp c)
    exact ⟨d, h0, h1, h2, h3, h4, h5, h6⟩
  choose d A using hd
  have R : ∀ c, Cert.ReferenceIdeal.Ffn.Reads (StableHlo.launchContents m' c) (d c) := fun c => by
    obtain ⟨h0, h1, h2, h3, h4, h5, h6⟩ := ha c
    exact ⟨h0.trans (A c).h, h1.trans (A c).t, h2.trans (A c).g3, h3.trans (A c).wg, h4.trans (A c).wu, h5.trans (A c).wd, h6.trans (A c).g4⟩
  refine ⟨fun c => (Cert.Ffn.up fun (_ _ : Fin 1) => 1 / 2 * ∑ b, ∑ s, (∑ k, ((d c).p b s).err k * ((d c).p b s).err k) / 1024 : FVec Ideal Cert.ReferenceIdeal.S1x1 .f32),
    fun c => (Cert.Ffn.up fun n => ((d c).q n).dh1 : FVec Ideal Cert.ReferenceIdeal.S8192x1024 .f32),
    fun c => (Cert.Ffn.up fun (_ : Fin 1) j => ∑ b, ∑ s, Cert.Ffn.nrm ((d c).h b s) j * ((d c).p b s).df j : FVec Ideal Cert.ReferenceIdeal.S1x1024 .f32),
    fun c => (Cert.Ffn.up fun (_ : Fin 1) j => ∑ b, ∑ s, ((d c).p b s).dh j * ((d c).p b s).dy j : FVec Ideal Cert.ReferenceIdeal.S1x1024 .f32),
    (θ_run Cert.KernelIdeal.defs _ _).mono (fun r h c => ?_)
      (θ_run_and (Cert.KernelIdeal.Ffn.run_value d A g) (Cert.KernelIdeal.Ffn.unchanged m g)),
    (θ_run Cert.ReferenceIdeal.defs _ _).mono (fun r h c => ?_) (Cert.ReferenceIdeal.Value.run m' g')⟩
  · exact ⟨(h.1 c).loss.trans (congrArg Cert.Ffn.up (funext fun _ => funext fun _ => Cert.Ffn.loss_eq (d c))), (h.1 c).dh1,
      (h.1 c).dg3.trans (congrArg Cert.Ffn.up (funext fun _ => funext fun j => Cert.Ffn.dg3_eq (d c) j)),
      (h.1 c).dg4.trans (congrArg Cert.Ffn.up (funext fun _ => funext fun j => Cert.Ffn.dg4_eq (d c) j)), h.2 c⟩
  · obtain ⟨l, x, a3, a4, rest⟩ := h c
    exact ⟨l.trans (Cert.ReferenceIdeal.Ffn.r_loss (R c)), x.trans (Cert.ReferenceIdeal.Ffn.r_dh1 (R c)),
      a3.trans (Cert.ReferenceIdeal.Ffn.r_dg3 (R c)), a4.trans (Cert.ReferenceIdeal.Ffn.r_dg4 (R c)), rest⟩

theorem frame_ideal2 : quiescent_Kernel2Ideal (hKernel2Ideal := Cert.Kernel2Ideal.Gen.facts) :=
  fun m ρ _ => Cert.Kernel2Ideal.Gen.frame (F := Ideal) m ρ

theorem frame_kernel2 : quiescent_Kernel2 (hKernel2 := Cert.Kernel2.Gen.facts) :=
  fun m ρ _ => cast (by sl_kernel_rfl) (Cert.Kernel2Ideal.Gen.frame (F := Bits) m ρ)

theorem frame_reference2 : quiescent_Reference2Ideal (hReference2Ideal := Cert.Reference2Ideal.Gen.facts) := by
  intro m ρ _; hlo_run
  · exact fun _ => by simp
  · exact sem_eq_zero_of_no_sems (sig := Cert.Reference2Ideal.sig) (by decide) _

open Cert.Kernel2Ideal.Grad in
theorem values2 : algebraic_Kernel2Ideal_Reference2Ideal (hKernel2Ideal := Cert.Kernel2Ideal.Gen.facts)
    (hReference2Ideal := Cert.Reference2Ideal.Gen.facts) := by
  intro m g m' g' _ ha
  refine ⟨fun c => Cert.Kernel2Ideal.Value.G3 m c, fun c => Cert.Kernel2Ideal.Value.G4 m c,
    Cert.Kernel2Ideal.Value.run m g, (θ_run Cert.Reference2Ideal.defs _ _).mono (fun r h c => ?_) (Cert.Reference2Ideal.Value.run m' g')⟩
  obtain ⟨x, y, rest⟩ := h c
  obtain ⟨h0, h1, h2, h3⟩ := ha c
  refine ⟨x.trans ?_, y.trans ?_, rest⟩
  · rw [h0, h1, h2, h3]
    exact (funext fun i => Cert.Reference2Ideal.Grad.read _ _ i).trans (gate_grad m c).symm
  · rw [h0, h1, h3]
    exact (funext fun i => Cert.Reference2Ideal.Grad.read _ _ i).trans (up_grad m c).symm

theorem frame_ideal3 : quiescent_Kernel3Ideal (hKernel3Ideal := Cert.Kernel3Ideal.Gen.facts) :=
  fun m ρ _ => Cert.Kernel3Ideal.Gen.frame (F := Ideal) m ρ

theorem frame_kernel3 : quiescent_Kernel3 (hKernel3 := Cert.Kernel3.Gen.facts) :=
  fun m ρ _ => cast (by sl_kernel_rfl) (Cert.Kernel3Ideal.Gen.frame (F := Bits) m ρ)

theorem frame_reference3 : quiescent_Reference3Ideal (hReference3Ideal := Cert.Reference3Ideal.Gen.facts) := by
  intro m ρ _; hlo_run
  · exact fun _ => by simp
  · exact sem_eq_zero_of_no_sems (sig := Cert.Reference3Ideal.sig) (by decide) _

set_option maxHeartbeats 4000000 in
open Cert.Kernel3Ideal Cert.Kernel3Ideal.Adam Cert.Adam in
theorem values3 : algebraic_Kernel3Ideal_Reference3Ideal (hKernel3Ideal := Cert.Kernel3Ideal.Gen.facts)
    (hReference3Ideal := Cert.Reference3Ideal.Gen.facts) := by
  intro m g m' g' _ ha
  let a := fun (c : Dev Cert.Kernel3Ideal.nD) (b : Ref Cert.Kernel3Ideal.sig .tc) => m ((c.tc : Thread Cert.Kernel3Ideal.nD Cert.Kernel3Ideal.τ).loc b)
  refine ⟨fun c => swap (a c Cert.Kernel3Ideal.main_arg1),
    fun c => change (swap (a c Cert.Kernel3Ideal.main_arg0)) (swap (a c Cert.Kernel3Ideal.main_arg1)) (swap (a c Cert.Kernel3Ideal.main_arg2)) (swap (a c Cert.Kernel3Ideal.main_arg3)),
    fun c => mean (swap (a c Cert.Kernel3Ideal.main_arg1)) (swap (a c Cert.Kernel3Ideal.main_arg2)),
    fun c => meanSq (swap (a c Cert.Kernel3Ideal.main_arg1)) (swap (a c Cert.Kernel3Ideal.main_arg3)),
    fun c => swap (a c Cert.Kernel3Ideal.main_arg5),
    fun c => change (swap (a c Cert.Kernel3Ideal.main_arg4)) (swap (a c Cert.Kernel3Ideal.main_arg5)) (swap (a c Cert.Kernel3Ideal.main_arg6)) (swap (a c Cert.Kernel3Ideal.main_arg7)),
    fun c => mean (swap (a c Cert.Kernel3Ideal.main_arg5)) (swap (a c Cert.Kernel3Ideal.main_arg6)),
    fun c => meanSq (swap (a c Cert.Kernel3Ideal.main_arg5)) (swap (a c Cert.Kernel3Ideal.main_arg7)),
    fun c => drop (a c Cert.Kernel3Ideal.main_arg9),
    fun c => change (drop (a c Cert.Kernel3Ideal.main_arg8)) (drop (a c Cert.Kernel3Ideal.main_arg9)) (drop (a c Cert.Kernel3Ideal.main_arg10)) (drop (a c Cert.Kernel3Ideal.main_arg11)),
    fun c => mean (drop (a c Cert.Kernel3Ideal.main_arg9)) (drop (a c Cert.Kernel3Ideal.main_arg10)),
    fun c => meanSq (drop (a c Cert.Kernel3Ideal.main_arg9)) (drop (a c Cert.Kernel3Ideal.main_arg11)),
    Cert.Kernel3Ideal.Adam.run m g, (θ_run Cert.Reference3Ideal.defs _ _).mono (fun r h c => ?_) (Cert.Reference3Ideal.Adam.run m' g')⟩
  obtain ⟨g0, d0, m0, s0, g1, d1, m1, s1, g2, d2, m2, s2, rest⟩ := h c
  obtain ⟨h0, h1, h2, h3, h4, h5, h6, h7, h8, h9, h10, h11⟩ := ha c
  have e0 := congrArg Cert.Reference3Ideal.Adam.swap h0
  have e1 := congrArg Cert.Reference3Ideal.Adam.swap h1
  have e2 := congrArg Cert.Reference3Ideal.Adam.swap h2
  have e3 := congrArg Cert.Reference3Ideal.Adam.swap h3
  have e4 := congrArg Cert.Reference3Ideal.Adam.swap h4
  have e5 := congrArg Cert.Reference3Ideal.Adam.swap h5
  have e6 := congrArg Cert.Reference3Ideal.Adam.swap h6
  have e7 := congrArg Cert.Reference3Ideal.Adam.swap h7
  have e8 := congrArg Cert.Reference3Ideal.Adam.drop h8
  have e9 := congrArg Cert.Reference3Ideal.Adam.drop h9
  have e10 := congrArg Cert.Reference3Ideal.Adam.drop h10
  have e11 := congrArg Cert.Reference3Ideal.Adam.drop h11
  exact ⟨g0.trans e1, d0.trans (congr (congr (congr (congrArg change e0) e1) e2) e3),
    m0.trans (congr (congrArg mean e1) e2), s0.trans (congr (congrArg meanSq e1) e3),
    g1.trans e5, d1.trans (congr (congr (congr (congrArg change e4) e5) e6) e7),
    m1.trans (congr (congrArg mean e5) e6), s1.trans (congr (congrArg meanSq e5) e7),
    g2.trans e9, d2.trans (congr (congr (congr (congrArg change e8) e9) e10) e11),
    m2.trans (congr (congrArg mean e9) e10), s2.trans (congr (congrArg meanSq e9) e11), rest⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, facts_finite,
    frame_kernel, frame_ideal, fun m ρ _ => frame_ideal m ρ trivial, frame_reference,
    fun m ρ _ => frame_reference m ρ trivial, frame_kernel2, frame_ideal2, frame_reference2, frame_kernel3, frame_ideal3, frame_reference3,
    trivial, values, trivial, values2, trivial, values3⟩

end Cert.Proof

end
